-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x256x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .bf16 := Host.absf main_arg2
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_scores_finite_ReferenceIdeal.lean ====
abbrev S1x256x1024 : Shape := ⟨3, ![1, 256, 1024]⟩
abbrev S1024x16384 : Shape := ⟨2, ![1024, 16384]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S1x256x1024 .bf16) (main_arg1 : FVec F S1024x16384 .bf16) (main_arg2 : FVec F S1024x16384 .bf16) (main_arg3 : FVec F S1024x16384 .bf16) (main_arg4 : FVec F S16384x1024 .bf16) : IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .bf16 := Host.absf main_arg1
  let main_cst_0 : FVec F S_ .bf16 := constant S_ .bf16 0x7F80#16
  let main_v5 : FVec F S1024x16384 .bf16 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024x16384 .bf16 := Host.absf main_arg2
  let main_cst_2 : FVec F S_ .bf16 := constant S_ .bf16 0x7F80#16
  let main_v10 : FVec F S1024x16384 .bf16 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S15x16x1024 : Shape := ⟨3, ![15, 16, 1024]⟩
abbrev S15 : Shape := ⟨1, ![15]⟩
abbrev S_ : Shape := ⟨0, ![]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x1024 : Shape := ⟨2, ![128, 1024]⟩
abbrev S1 : Shape := ⟨1, ![1]⟩
abbrev S1x16x1024 : Shape := ⟨3, ![1, 16, 1024]⟩
abbrev S16x1024 : Shape := ⟨2, ![16, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x256x1024, .bf16⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S15x16x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_124 : BitVec 32) : Fin 3 → Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v248 : BitVec 32 := Scalar.addi v2 c1_i32_124
  let c16_i32_125 : BitVec 32 := 16#32
  let v249 : BitVec 32 := Scalar.remsi v248 c16_i32_125
  let c16_i32_126 : BitVec 32 := 16#32
  let v250 : BitVec 32 := Scalar.muli v249 c16_i32_126
  let c0_i32_135 : BitVec 32 := 0#32
  ![0, v250.toNat, 0]
def k0_dev16 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_124 : BitVec 32 := 1#32
  let v248 : BitVec 32 := Scalar.addi v2 c1_i32_124
  let c16_i32_125 : BitVec 32 := 16#32
  let v249 : BitVec 32 := Scalar.remsi v248 c16_i32_125
  let c1_i32_131 : BitVec 32 := 1#32
  let v251 : BitVec 32 := Scalar.muli v249 c1_i32_131
  let v252 : BitVec 32 := Scalar.addi c0_i32_132 v251
  v252.toNat
def k0_dev17 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_136 : BitVec 32 := 2#32
  let v261 : BitVec 32 := Scalar.addi v2 c2_i32_136
  let c16_i32_137 : BitVec 32 := 16#32
  let v262 : BitVec 32 := Scalar.remsi v261 c16_i32_137
  let c1_i32_143 : BitVec 32 := 1#32
  let v264 : BitVec 32 := Scalar.muli v262 c1_i32_143
  let v265 : BitVec 32 := Scalar.addi c0_i32_144 v264
  v265.toNat
def k0_dev18 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_148 : BitVec 32 := 3#32
  let v274 : BitVec 32 := Scalar.addi v2 c3_i32_148
  let c16_i32_149 : BitVec 32 := 16#32
  let v275 : BitVec 32 := Scalar.remsi v274 c16_i32_149
  let c1_i32_155 : BitVec 32 := 1#32
  let v277 : BitVec 32 := Scalar.muli v275 c1_i32_155
  let v278 : BitVec 32 := Scalar.addi c0_i32_156 v277
  v278.toNat
def k0_dev19 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_160 : BitVec 32 := 4#32
  let v287 : BitVec 32 := Scalar.addi v2 c4_i32_160
  let c16_i32_161 : BitVec 32 := 16#32
  let v288 : BitVec 32 := Scalar.remsi v287 c16_i32_161
  let c1_i32_167 : BitVec 32 := 1#32
  let v290 : BitVec 32 := Scalar.muli v288 c1_i32_167
  let v291 : BitVec 32 := Scalar.addi c0_i32_168 v290
  v291.toNat
def k0_dev20 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_172 : BitVec 32 := 5#32
  let v300 : BitVec 32 := Scalar.addi v2 c5_i32_172
  let c16_i32_173 : BitVec 32 := 16#32
  let v301 : BitVec 32 := Scalar.remsi v300 c16_i32_173
  let c1_i32_179 : BitVec 32 := 1#32
  let v303 : BitVec 32 := Scalar.muli v301 c1_i32_179
  let v304 : BitVec 32 := Scalar.addi c0_i32_180 v303
  v304.toNat
def k0_dev21 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_184 : BitVec 32 := 6#32
  let v313 : BitVec 32 := Scalar.addi v2 c6_i32_184
  let c16_i32_185 : BitVec 32 := 16#32
  let v314 : BitVec 32 := Scalar.remsi v313 c16_i32_185
  let c1_i32_191 : BitVec 32 := 1#32
  let v316 : BitVec 32 := Scalar.muli v314 c1_i32_191
  let v317 : BitVec 32 := Scalar.addi c0_i32_192 v316
  v317.toNat
def k0_dev22 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_196 : BitVec 32 := 7#32
  let v326 : BitVec 32 := Scalar.addi v2 c7_i32_196
  let c16_i32_197 : BitVec 32 := 16#32
  let v327 : BitVec 32 := Scalar.remsi v326 c16_i32_197
  let c1_i32_203 : BitVec 32 := 1#32
  let v329 : BitVec 32 := Scalar.muli v327 c1_i32_203
  let v330 : BitVec 32 := Scalar.addi c0_i32_204 v329
  v330.toNat
def k0_dev23 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_208 : BitVec 32 := 8#32
  let v339 : BitVec 32 := Scalar.addi v2 c8_i32_208
  let c16_i32_209 : BitVec 32 := 16#32
  let v340 : BitVec 32 := Scalar.remsi v339 c16_i32_209
  let c1_i32_215 : BitVec 32 := 1#32
  let v342 : BitVec 32 := Scalar.muli v340 c1_i32_215
  let v343 : BitVec 32 := Scalar.addi c0_i32_216 v342
  v343.toNat
def k0_dev24 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_220 : BitVec 32 := 9#32
  let v352 : BitVec 32 := Scalar.addi v2 c9_i32_220
  let c16_i32_221 : BitVec 32 := 16#32
  let v353 : BitVec 32 := Scalar.remsi v352 c16_i32_221
  let c1_i32_227 : BitVec 32 := 1#32
  let v355 : BitVec 32 := Scalar.muli v353 c1_i32_227
  let v356 : BitVec 32 := Scalar.addi c0_i32_228 v355
  v356.toNat
def k0_dev25 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_232 : BitVec 32 := 10#32
  let v365 : BitVec 32 := Scalar.addi v2 c10_i32_232
  let c16_i32_233 : BitVec 32 := 16#32
  let v366 : BitVec 32 := Scalar.remsi v365 c16_i32_233
  let c1_i32_239 : BitVec 32 := 1#32
  let v368 : BitVec 32 := Scalar.muli v366 c1_i32_239
  let v369 : BitVec 32 := Scalar.addi c0_i32_240 v368
  v369.toNat
def k0_dev26 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_244 : BitVec 32 := 11#32
  let v378 : BitVec 32 := Scalar.addi v2 c11_i32_244
  let c16_i32_245 : BitVec 32 := 16#32
  let v379 : BitVec 32 := Scalar.remsi v378 c16_i32_245
  let c1_i32_251 : BitVec 32 := 1#32
  let v381 : BitVec 32 := Scalar.muli v379 c1_i32_251
  let v382 : BitVec 32 := Scalar.addi c0_i32_252 v381
  v382.toNat
def k0_dev27 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_256 : BitVec 32 := 12#32
  let v391 : BitVec 32 := Scalar.addi v2 c12_i32_256
  let c16_i32_257 : BitVec 32 := 16#32
  let v392 : BitVec 32 := Scalar.remsi v391 c16_i32_257
  let c1_i32_263 : BitVec 32 := 1#32
  let v394 : BitVec 32 := Scalar.muli v392 c1_i32_263
  let v395 : BitVec 32 := Scalar.addi c0_i32_264 v394
  v395.toNat
def k0_dev28 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_268 : BitVec 32 := 13#32
  let v404 : BitVec 32 := Scalar.addi v2 c13_i32_268
  let c16_i32_269 : BitVec 32 := 16#32
  let v405 : BitVec 32 := Scalar.remsi v404 c16_i32_269
  let c1_i32_275 : BitVec 32 := 1#32
  let v407 : BitVec 32 := Scalar.muli v405 c1_i32_275
  let v408 : BitVec 32 := Scalar.addi c0_i32_276 v407
  v408.toNat
def k0_dev29 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_280 : BitVec 32 := 14#32
  let v417 : BitVec 32 := Scalar.addi v2 c14_i32_280
  let c16_i32_281 : BitVec 32 := 16#32
  let v418 : BitVec 32 := Scalar.remsi v417 c16_i32_281
  let c1_i32_287 : BitVec 32 := 1#32
  let v420 : BitVec 32 := Scalar.muli v418 c1_i32_287
  let v421 : BitVec 32 := Scalar.addi c0_i32_288 v420
  v421.toNat
def k0_dev30 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_292 : BitVec 32 := 15#32
  let v430 : BitVec 32 := Scalar.addi v2 c15_i32_292
  let c16_i32_293 : BitVec 32 := 16#32
  let v431 : BitVec 32 := Scalar.remsi v430 c16_i32_293
  let c1_i32_299 : BitVec 32 := 1#32
  let v433 : BitVec 32 := Scalar.muli v431 c1_i32_299
  let v434 : BitVec 32 := Scalar.addi c0_i32_300 v433
  v434.toNat
def k0_off2 (d0 : Dev nD) : Fin 3 → Nat :=
  let c0_440 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_439 : BitVec 32 := 16#32
  let v563 : BitVec 32 := Scalar.muli v2 c16_i32_439
  let v564 : Index := Scalar.indexCast v563
  let c0_441 : Index := 0#32
  ![0, v564.toNat, 0]
def k0_off3 (d0 : Dev nD) : Fin 3 → Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_599 : BitVec 32 := 16#32
  let v727 : BitVec 32 := Scalar.muli v2 c16_i32_599
  let c0_i32_606 : BitVec 32 := 0#32
  ![0, v727.toNat, 0]
def k0_dev31 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_596 : BitVec 32 := 1#32
  let v724 : BitVec 32 := Scalar.addi v2 c1_i32_596
  let c16_i32_597 : BitVec 32 := 16#32
  let v725 : BitVec 32 := Scalar.remsi v724 c16_i32_597
  let c1_i32_604 : BitVec 32 := 1#32
  let v728 : BitVec 32 := Scalar.muli v725 c1_i32_604
  let v729 : BitVec 32 := Scalar.addi c0_i32_605 v728
  v729.toNat
def k0_dev32 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_608 : BitVec 32 := 2#32
  let v738 : BitVec 32 := Scalar.addi v2 c2_i32_608
  let c16_i32_609 : BitVec 32 := 16#32
  let v739 : BitVec 32 := Scalar.remsi v738 c16_i32_609
  let c1_i32_616 : BitVec 32 := 1#32
  let v742 : BitVec 32 := Scalar.muli v739 c1_i32_616
  let v743 : BitVec 32 := Scalar.addi c0_i32_617 v742
  v743.toNat
def k0_dev33 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_620 : BitVec 32 := 3#32
  let v752 : BitVec 32 := Scalar.addi v2 c3_i32_620
  let c16_i32_621 : BitVec 32 := 16#32
  let v753 : BitVec 32 := Scalar.remsi v752 c16_i32_621
  let c1_i32_628 : BitVec 32 := 1#32
  let v756 : BitVec 32 := Scalar.muli v753 c1_i32_628
  let v757 : BitVec 32 := Scalar.addi c0_i32_629 v756
  v757.toNat
def k0_dev34 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_632 : BitVec 32 := 4#32
  let v766 : BitVec 32 := Scalar.addi v2 c4_i32_632
  let c16_i32_633 : BitVec 32 := 16#32
  let v767 : BitVec 32 := Scalar.remsi v766 c16_i32_633
  let c1_i32_640 : BitVec 32 := 1#32
  let v770 : BitVec 32 := Scalar.muli v767 c1_i32_640
  let v771 : BitVec 32 := Scalar.addi c0_i32_641 v770
  v771.toNat
def k0_dev35 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_644 : BitVec 32 := 5#32
  let v780 : BitVec 32 := Scalar.addi v2 c5_i32_644
  let c16_i32_645 : BitVec 32 := 16#32
  let v781 : BitVec 32 := Scalar.remsi v780 c16_i32_645
  let c1_i32_652 : BitVec 32 := 1#32
  let v784 : BitVec 32 := Scalar.muli v781 c1_i32_652
  let v785 : BitVec 32 := Scalar.addi c0_i32_653 v784
  v785.toNat
def k0_dev36 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_656 : BitVec 32 := 6#32
  let v794 : BitVec 32 := Scalar.addi v2 c6_i32_656
  let c16_i32_657 : BitVec 32 := 16#32
  let v795 : BitVec 32 := Scalar.remsi v794 c16_i32_657
  let c1_i32_664 : BitVec 32 := 1#32
  let v798 : BitVec 32 := Scalar.muli v795 c1_i32_664
  let v799 : BitVec 32 := Scalar.addi c0_i32_665 v798
  v799.toNat
def k0_dev37 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_668 : BitVec 32 := 7#32
  let v808 : BitVec 32 := Scalar.addi v2 c7_i32_668
  let c16_i32_669 : BitVec 32 := 16#32
  let v809 : BitVec 32 := Scalar.remsi v808 c16_i32_669
  let c1_i32_676 : BitVec 32 := 1#32
  let v812 : BitVec 32 := Scalar.muli v809 c1_i32_676
  let v813 : BitVec 32 := Scalar.addi c0_i32_677 v812
  v813.toNat
def k0_dev38 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_680 : BitVec 32 := 8#32
  let v822 : BitVec 32 := Scalar.addi v2 c8_i32_680
  let c16_i32_681 : BitVec 32 := 16#32
  let v823 : BitVec 32 := Scalar.remsi v822 c16_i32_681
  let c1_i32_688 : BitVec 32 := 1#32
  let v826 : BitVec 32 := Scalar.muli v823 c1_i32_688
  let v827 : BitVec 32 := Scalar.addi c0_i32_689 v826
  v827.toNat
def k0_dev39 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_692 : BitVec 32 := 9#32
  let v836 : BitVec 32 := Scalar.addi v2 c9_i32_692
  let c16_i32_693 : BitVec 32 := 16#32
  let v837 : BitVec 32 := Scalar.remsi v836 c16_i32_693
  let c1_i32_700 : BitVec 32 := 1#32
  let v840 : BitVec 32 := Scalar.muli v837 c1_i32_700
  let v841 : BitVec 32 := Scalar.addi c0_i32_701 v840
  v841.toNat
def k0_dev40 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_704 : BitVec 32 := 10#32
  let v850 : BitVec 32 := Scalar.addi v2 c10_i32_704
  let c16_i32_705 : BitVec 32 := 16#32
  let v851 : BitVec 32 := Scalar.remsi v850 c16_i32_705
  let c1_i32_712 : BitVec 32 := 1#32
  let v854 : BitVec 32 := Scalar.muli v851 c1_i32_712
  let v855 : BitVec 32 := Scalar.addi c0_i32_713 v854
  v855.toNat
def k0_dev41 (d0 : Dev nD) : Nat :=
  let c0_i32_725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_716 : BitVec 32 := 11#32
  let v864 : BitVec 32 := Scalar.addi v2 c11_i32_716
  let c16_i32_717 : BitVec 32 := 16#32
  let v865 : BitVec 32 := Scalar.remsi v864 c16_i32_717
  let c1_i32_724 : BitVec 32 := 1#32
  let v868 : BitVec 32 := Scalar.muli v865 c1_i32_724
  let v869 : BitVec 32 := Scalar.addi c0_i32_725 v868
  v869.toNat
def k0_dev42 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_728 : BitVec 32 := 12#32
  let v878 : BitVec 32 := Scalar.addi v2 c12_i32_728
  let c16_i32_729 : BitVec 32 := 16#32
  let v879 : BitVec 32 := Scalar.remsi v878 c16_i32_729
  let c1_i32_736 : BitVec 32 := 1#32
  let v882 : BitVec 32 := Scalar.muli v879 c1_i32_736
  let v883 : BitVec 32 := Scalar.addi c0_i32_737 v882
  v883.toNat
def k0_dev43 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_740 : BitVec 32 := 13#32
  let v892 : BitVec 32 := Scalar.addi v2 c13_i32_740
  let c16_i32_741 : BitVec 32 := 16#32
  let v893 : BitVec 32 := Scalar.remsi v892 c16_i32_741
  let c1_i32_748 : BitVec 32 := 1#32
  let v896 : BitVec 32 := Scalar.muli v893 c1_i32_748
  let v897 : BitVec 32 := Scalar.addi c0_i32_749 v896
  v897.toNat
def k0_dev44 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_752 : BitVec 32 := 14#32
  let v906 : BitVec 32 := Scalar.addi v2 c14_i32_752
  let c16_i32_753 : BitVec 32 := 16#32
  let v907 : BitVec 32 := Scalar.remsi v906 c16_i32_753
  let c1_i32_760 : BitVec 32 := 1#32
  let v910 : BitVec 32 := Scalar.muli v907 c1_i32_760
  let v911 : BitVec 32 := Scalar.addi c0_i32_761 v910
  v911.toNat
def k0_dev45 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_764 : BitVec 32 := 15#32
  let v920 : BitVec 32 := Scalar.addi v2 c15_i32_764
  let c16_i32_765 : BitVec 32 := 16#32
  let v921 : BitVec 32 := Scalar.remsi v920 c16_i32_765
  let c1_i32_772 : BitVec 32 := 1#32
  let v924 : BitVec 32 := Scalar.muli v921 c1_i32_772
  let v925 : BitVec 32 := Scalar.addi c0_i32_773 v924
  v925.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S16384x1024 : Shape := ⟨2, ![16384, 1024]⟩
abbrev S1x256x16384 : Shape := ⟨3, ![1, 256, 16384]⟩
abbrev S1x256x128x128 : Shape := ⟨4, ![1, 256, 128, 128]⟩
abbrev S1x128x256x256 : Shape := ⟨4, ![1, 128, 256, 256]⟩
abbrev S_ : Shape := ⟨0, ![]⟩
abbrev S1x128x256 : Shape := ⟨3, ![1, 128, 256]⟩
abbrev S1x128x256x1 : Shape := ⟨4, ![1, 128, 256, 1]⟩
abbrev S1x128x128x256 : Shape := ⟨4, ![1, 128, 128, 256]⟩
abbrev S1x256x128x1 : Shape := ⟨4, ![1, 256, 128, 1]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .bf16⟩
  | .hbm, ⟨1, _⟩ => ⟨S1024x16384, .bf16⟩
  | .hbm, ⟨2, _⟩ => ⟨S1024x16384, .bf16⟩
  | .hbm, ⟨3, _⟩ => ⟨S1024x16384, .bf16⟩
  | .hbm, ⟨4, _⟩ => ⟨S16384x1024, .bf16⟩
  | .hbm, ⟨5, _⟩ => ⟨S1x256x1024, .f32⟩
  | .hbm, ⟨6, _⟩ => ⟨S1024x16384, .f32⟩
  | .hbm, ⟨7, _⟩ => ⟨S1024x16384, .f32⟩
  | .hbm, ⟨8, _⟩ => ⟨S1024x16384, .f32⟩
  | .hbm, ⟨9, _⟩ => ⟨S16384x1024, .f32⟩
  | .hbm, ⟨10, _⟩ => ⟨S1x256x16384, .f32⟩
  | .hbm, ⟨11, _⟩ => ⟨S1x256x128x128, .f32⟩
  | .hbm, ⟨12, _⟩ => ⟨S1x256x16384, .f32⟩
  | .hbm, ⟨13, _⟩ => ⟨S1x256x128x128, .f32⟩
  | .hbm, ⟨14, _⟩ => ⟨S1x256x16384, .f32⟩
  | .hbm, ⟨15, _⟩ => ⟨S1x256x128x128, .f32⟩
  | .hbm, ⟨16, _⟩ => ⟨S1x128x256x256, .f32⟩
  | .hbm, ⟨17, _⟩ => ⟨S_, .f32⟩
  | .hbm, ⟨18, _⟩ => ⟨S1x128x256x256, .f32⟩
  | .hbm, ⟨19, _⟩ => ⟨S1x128x256x256, .f32⟩
  | .hbm, ⟨20, _⟩ => ⟨S_, .f32⟩
  | .hbm, ⟨21, _⟩ => ⟨S1x128x256, .f32⟩
  | .hbm, ⟨22, _⟩ => ⟨S1x128x256x1, .f32⟩
  | .hbm, ⟨23, _⟩ => ⟨S1x128x256x256, .f32⟩
  | .hbm, ⟨24, _⟩ => ⟨S1x128x256x256, .f32⟩
  | .hbm, ⟨25, _⟩ => ⟨S1x128x256x256, .f32⟩
  | .hbm, ⟨26, _⟩ => ⟨S_, .f32⟩
  | .hbm, ⟨27, _⟩ => ⟨S1x128x256, .f32⟩
  | .hbm, ⟨28, _⟩ => ⟨S1x128x256x1, .f32⟩
  | .hbm, ⟨29, _⟩ => ⟨S1x128x128x256, .f32⟩
  | .hbm, ⟨30, _⟩ => ⟨S1x256x128x128, .f32⟩
  | .hbm, ⟨31, _⟩ => ⟨S1x256x128x1, .f32⟩
  | .hbm, ⟨32, _⟩ => ⟨S1x256x128x128, .f32⟩
  | .hbm, ⟨33, _⟩ => ⟨S1x256x128x128, .f32⟩
  | .hbm, ⟨34, _⟩ => ⟨S1x256x16384, .f32⟩
  | .hbm, ⟨35, _⟩ => ⟨S1x256x1024, .f32⟩
  | .hbm, ⟨36, _⟩ => ⟨S1x256x1024, .bf16⟩
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Common.lean ====
/-
# The cells, the views and the mesh of the attention kernel

Sixteen devices around a mesh axis. Device `c` computes its heads' part of the output projection (all 256 rows), then
sends rows `16 t .. 16 t + 15` of that part to device `t` (the reduce-scatter), adds up the sixteen parts of its own
rows, and sends the sum back to every other device (the all-gather). Offsets are numbered `i : Fin 15`, standing for
the distance `i + 1`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, and the protocol's with duties named by offsets -/

abbrev UB : Type := URounds (GSem nD τ sig) (Fin 15)
abbrev UU : Type := UR sig nD τ × UB

abbrev EP : Emb (UR sig nD τ) (MT nD τ sig Unit (Elt F) ℕ UU ℕ) := embL
abbrev ER : Emb UB (MT nD τ sig Unit (Elt F) ℕ UU ℕ) := embR

/-! ## The mesh -/

/-- The device `i + 1` places after `c`. -/
def up (c : Dev nD) (i : Fin 15) : Dev nD := ⟨(c.val + (i.val + 1)) % 16, Nat.mod_lt _ (by decide)⟩

theorem up_val (c : Dev nD) (i : Fin 15) : (up c i).val = (c.val + (i.val + 1)) % 16 := rfl
theorem up_rev_up (c : Dev nD) (i : Fin 15) : up (up c i) i.rev = c := by revert c i; decide
theorem up_up_rev (c : Dev nD) (i : Fin 15) : up (up c i.rev) i = c := by revert c i; decide
theorem up_ne (c : Dev nD) (i : Fin 15) : up c i ≠ c := by revert c i; decide
theorem up_inj (i : Fin 15) {a b : Dev nD} (h : up a i = up b i) : a = b := by rw [← up_rev_up a i, h, up_rev_up]
theorem up_inj_right (c : Dev nD) {i j : Fin 15} (h : up c i = up c j) : i = j := by revert c i j; decide

/-- Moving every device by one offset permutes the mesh. -/
def shift (i : Fin 15) : Dev nD ≃ Dev nD := ⟨fun c => up c i, fun c => up c i.rev, fun c => up_rev_up c i, fun c => up_up_rev c i⟩

/-- A device and the fifteen others are all sixteen. -/
def around (c : Dev nD) : Option (Fin 15) ≃ Dev nD :=
  Equiv.ofBijective (fun o => o.elim c (up c)) (by
    rw [Fintype.bijective_iff_injective_and_card]
    refine ⟨?_, by decide⟩
    rintro (_ | i) (_ | j) h
    · rfl
    · exact absurd h.symm (up_ne c j)
    · exact absurd h (up_ne c i)
    · exact congrArg some (up_inj_right c h))

/-! ## Memrefs and semaphores -/

abbrev oM : Memref sig .tc .vmem S1x256x1024 .bf16 := Memref.whole cc0_stg5_0
abbrev sM : Memref sig .tc .vmem S15x16x1024 .bf16 := Memref.whole cc0_scratch0

abbrev barS : Sem sig := (SemArray.scalar (sig.barrier 0 rfl) : Sems sig S_).sem

/-- The kernel's own transfer semaphores: four arrays of fifteen. -/
def dsem (a : Fin 4) (i : Fin 15) : DmaSem sig := ⟨6 + (15 * a.val + i.val), by revert a i; decide⟩

theorem dsem_inj {a b : Fin 4} {i j : Fin 15} (h : dsem a i = dsem b j) : a = b ∧ i = j := by
  have h' := congrArg Fin.val h
  simp only [dsem] at h'
  exact ⟨Fin.ext (by omega), Fin.ext (by omega)⟩

abbrev barCell (c : Dev nD) : GSem nD τ sig := ((c : Thread nD τ), .reg barS)
abbrev dCell (c : Dev nD) (a : Fin 4) (i : Fin 15) : GSem nD τ sig := ((c : Thread nD τ), .dma (dsem a i))

/-- The kernel's own (scoped) semaphores as the launch indexes them, and with the barrier all it uses. -/
abbrev osem : Fin 4 × Fin 15 → SemLoc sig := fun k => .dma (dsem k.1 k.2)
abbrev csem : Option (Fin 4 × Fin 15) → SemLoc sig := fun k => k.elim (.reg barS) osem
abbrev kcell (ck : Dev nD × Option (Fin 4 × Fin 15)) : GSem nD τ sig := ((ck.1 : Thread nD τ), csem ck.2)

theorem osem_inj : Function.Injective osem := fun k k' h => by
  injection h with h
  have := dsem_inj h
  exact Prod.ext this.1 this.2

theorem csem_inj : Function.Injective csem := by
  rintro (_ | k) (_ | k') h
  · rfl
  · cases h
  · cases h
  · exact congrArg some (osem_inj h)

theorem tc_inj {a b : Dev nD} (h : (a : Thread nD τ) = (b : Thread nD τ)) : a = b := congrArg (fun t : Thread nD τ => t.1) h

theorem kcell_inj : Function.Injective kcell := fun x y h =>
  Prod.ext (tc_inj (congrArg Prod.fst h)) (csem_inj (congrArg Prod.snd h))

/-! ## The views: one device's sixteen rows of the output, one slot of the receive buffer -/

theorem row_inb (a : Dev nD) : ∀ x, (![0, 16 * a.val, 0] : Fin 3 → ℕ) x + S1x16x1024.size x ≤ S1x256x1024.size x := by revert a; decide
theorem slot_inb (i : Fin 15) : ∀ x, (![i.val, 0, 0] : Fin 3 → ℕ) x + S1x16x1024.size x ≤ S15x16x1024.size x := by revert i; decide

abbrev rowR (a : Dev nD) : Rect S1x256x1024 := Rect.unit (s := S1x256x1024) ![0, 16 * a.val, 0] S1x16x1024.size (row_inb a)
abbrev slotR (i : Fin 15) : Rect S15x16x1024 := Rect.unit (s := S15x16x1024) ![i.val, 0, 0] S1x16x1024.size (slot_inb i)

abbrev rowV (a : Dev nD) : Memref sig .tc .vmem S16x1024 .bf16 :=
  (oM.slice (rowR a) (fun _ => rfl)).squeeze S16x1024 squeezes_S1x16x1024_S16x1024
abbrev slotV (i : Fin 15) : Memref sig .tc .vmem S16x1024 .bf16 :=
  (sM.slice (slotR i) (fun _ => rfl)).squeeze S16x1024 squeezes_S1x16x1024_S16x1024

/-- The credit of one transfer. -/
def N : ℕ := (slotV 0).view.dmaCredit
theorem N_pos : 0 < N := View.dmaCredit_pos _ (by decide)
theorem slot_credit (i : Fin 15) : (slotV i).view.dmaCredit = N := rfl
theorem row_credit (a : Dev nD) : (rowV a).view.dmaCredit = N := rfl

end Cert.Mesh

end
-- ==== Proof.Geometry.lean ====
/-
# Where the views lie

The sixteen blocks of sixteen rows cut the output exactly, the fifteen slots cut the receive buffer exactly, and what a
transfer leaves under its destination is the source's contents element by element.
-/
module

public import proofs.«01_k».proof.Proof.Common
public import Idealize.ShloMosaic.Lib.ValueLayout

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3 reshapeEquiv_ix2_1ab)

variable {F : FTy → Type} [FloatOps F]

/-- Row `r` of device `a`'s block of the output, at column `k`. -/
def oIx (a : Dev nD) (r : Fin 16) (k : Fin 1024) : S1x256x1024.Idx :=
  ix3 (n0 := 1) (n1 := 256) (n2 := 1024) 0 ⟨16 * a.val + r.val, by have : a.val < 16 := a.isLt; have := r.isLt; omega⟩ k

/-- Row `r` of slot `i`, at column `k`. -/
abbrev sIx (i : Fin 15) (r : Fin 16) (k : Fin 1024) : S15x16x1024.Idx := ix3 (n0 := 15) (n1 := 16) (n2 := 1024) i r k

theorem ix3_ext {n0 n1 n2 : ℕ} {x y : (⟨3, ![n0, n1, n2]⟩ : Shape).Idx} (h0 : (x 0).val = (y 0).val)
    (h1 : (x 1).val = (y 1).val) (h2 : (x 2).val = (y 2).val) : x = y := by
  funext d
  match d with
  | ⟨0, _⟩ => exact Fin.ext h0
  | ⟨1, _⟩ => exact Fin.ext h1
  | ⟨2, _⟩ => exact Fin.ext h2

theorem rowV_emb (a : Dev nD) (r : Fin 16) (k : Fin 1024) :
    (rowV a).view.emb (ix2 (n0 := 16) (n1 := 1024) r k) = oIx a r k := by
  show (rowR a).emb (Shape.reshapeEquiv (s := S1x16x1024) (s' := S16x1024) _ (ix2 (n0 := 16) (n1 := 1024) r k)) = _
  rw [reshapeEquiv_ix2_1ab]
  refine ix3_ext ?_ ?_ ?_
  · show 0 + 1 * 0 = 0; rfl
  · show 16 * a.val + 1 * r.val = 16 * a.val + r.val; omega
  · show 0 + 1 * k.val = k.val; omega

theorem slotV_emb (i : Fin 15) (r : Fin 16) (k : Fin 1024) :
    (slotV i).view.emb (ix2 (n0 := 16) (n1 := 1024) r k) = sIx i r k := by
  show (slotR i).emb (Shape.reshapeEquiv (s := S1x16x1024) (s' := S16x1024) _ (ix2 (n0 := 16) (n1 := 1024) r k)) = _
  rw [reshapeEquiv_ix2_1ab]
  refine ix3_ext ?_ ?_ ?_
  · show i.val + 1 * 0 = i.val; omega
  · show 0 + 1 * r.val = r.val; omega
  · show 0 + 1 * k.val = k.val; omega

/-- The elements of one block, of one slot. -/
abbrev rowS (a : Dev nD) : Finset S1x256x1024.Idx := (rowV a).view.set
abbrev slotS (i : Fin 15) : Finset S15x16x1024.Idx := (slotV i).view.set

theorem mem_rowS {a : Dev nD} {x : S1x256x1024.Idx} : x ∈ rowS a ↔ ∃ r k, x = oIx a r k := by
  constructor
  · intro h
    obtain ⟨y, -, rfl⟩ := Finset.mem_map.mp h
    refine ⟨y 0, y 1, ?_⟩
    conv_lhs => rw [eq_ix2 (n0 := 16) (n1 := 1024) y]
    exact rowV_emb a (y 0) (y 1)
  · rintro ⟨r, k, rfl⟩
    exact Finset.mem_map.mpr ⟨ix2 (n0 := 16) (n1 := 1024) r k, Finset.mem_univ _, rowV_emb a r k⟩

theorem mem_slotS {i : Fin 15} {x : S15x16x1024.Idx} : x ∈ slotS i ↔ ∃ r k, x = sIx i r k := by
  constructor
  · intro h
    obtain ⟨y, -, rfl⟩ := Finset.mem_map.mp h
    refine ⟨y 0, y 1, ?_⟩
    conv_lhs => rw [eq_ix2 (n0 := 16) (n1 := 1024) y]
    exact slotV_emb i (y 0) (y 1)
  · rintro ⟨r, k, rfl⟩
    exact Finset.mem_map.mpr ⟨ix2 (n0 := 16) (n1 := 1024) r k, Finset.mem_univ _, slotV_emb i r k⟩

theorem oIx_dev {a b : Dev nD} {r r' : Fin 16} {k k' : Fin 1024} (h : oIx a r k = oIx b r' k') : a = b := by
  have h1 : 16 * a.val + r.val = 16 * b.val + r'.val := congrArg (fun x : S1x256x1024.Idx => (x 1).val) h
  exact Fin.ext (by have := r.isLt; have := r'.isLt; omega)

theorem rowS_disj {a b : Dev nD} (h : a ≠ b) : Disjoint (rowS a) (rowS b) := by
  rw [Finset.disjoint_left]
  intro x ha hb
  obtain ⟨r, k, rfl⟩ := mem_rowS.1 ha
  obtain ⟨r', k', e⟩ := mem_rowS.1 hb
  exact h (oIx_dev e)

theorem slotS_disj {i j : Fin 15} (h : i ≠ j) : Disjoint (slotS i) (slotS j) := by
  rw [Finset.disjoint_left]
  intro x ha hb
  obtain ⟨r, k, rfl⟩ := mem_slotS.1 ha
  obtain ⟨r', k', e⟩ := mem_slotS.1 hb
  exact h (congrArg (fun x : S15x16x1024.Idx => x 0) e)

/-- Every element of the output is a row of some device. -/
theorem eq_oIx (x : S1x256x1024.Idx) :
    x = oIx ⟨(x 1).val / 16, Nat.div_lt_of_lt_mul (x 1).isLt⟩ ⟨(x 1).val % 16, Nat.mod_lt _ (by decide)⟩ (x 2) := by
  refine ix3_ext ?_ ?_ rfl
  · have : (x 0).val < 1 := (x 0).isLt
    show (x 0).val = 0; omega
  · show (x 1).val = 16 * ((x 1).val / 16) + (x 1).val % 16; omega

theorem rowS_cover : (Finset.univ.biUnion rowS) = Finset.univ := by
  ext x
  simp only [Finset.mem_biUnion, Finset.mem_univ, true_and, iff_true]
  exact ⟨_, mem_rowS.2 ⟨_, _, eq_oIx x⟩⟩

theorem slotS_cover : (Finset.univ.biUnion slotS) = Finset.univ := by
  ext x
  simp only [Finset.mem_biUnion, Finset.mem_univ, true_and, iff_true]
  exact ⟨x 0, mem_slotS.2 ⟨x 1, x 2, eq_ix3 x⟩⟩

/-! ## Buffers and where they are held -/

abbrev SBuf (F : FTy → Type) : Type := (cc0_scratch0 : Ref sig .tc).ty.Contents (Elt F)
abbrev OutBuf (F : FTy → Type) : Type := (cc0_stg5_0 : Ref sig .tc).ty.Contents (Elt F)

/-- Device `c`'s output rows of block `a`, and its slot `i`, held at a share and contents. -/
def outAt (c a : Dev nD) (q : PosShare TreeShare) (f : OutBuf F) : sProp (MT nD τ sig Unit (Elt F) ℕ UU ℕ) :=
  (oM.view.loc (c : Thread nD τ)) ↦[rowS a]{q} f

def slotAt (c : Dev nD) (i : Fin 15) (f : SBuf F) : sProp (MT nD τ sig Unit (Elt F) ℕ UU ℕ) :=
  (sM.view.loc (c : Thread nD τ)) ↦[slotS i]{fullShare} f

theorem outAt_congr (c a : Dev nD) (q : PosShare TreeShare) {f g : OutBuf F} (h : ∀ r k, f (oIx a r k) = g (oIx a r k)) :
    (outAt c a q f : sProp (MT nD τ sig Unit (Elt F) ℕ UU ℕ)) = outAt c a q g :=
  pointsTo_congr fun x hx => by obtain ⟨r, k, rfl⟩ := mem_rowS.1 hx; exact h r k

theorem slotAt_congr (c : Dev nD) (i : Fin 15) {f g : SBuf F} (h : ∀ r k, f (sIx i r k) = g (sIx i r k)) :
    (slotAt c i f : sProp (MT nD τ sig Unit (Elt F) ℕ UU ℕ)) = slotAt c i g :=
  pointsTo_congr fun x hx => by obtain ⟨r, k, rfl⟩ := mem_slotS.1 hx; exact h r k

/-- The whole output is its sixteen blocks. -/
theorem out_blocks (c : Dev nD) (f : OutBuf F) :
    ((oM.view.loc (c : Thread nD τ)) ↦[Finset.univ]{fullShare} f : sProp (MT nD τ sig Unit (Elt F) ℕ UU ℕ))
      = bigSep Finset.univ fun a => outAt c a fullShare f := by
  have h := pointsTo_biUnion (Ix := Unit) (Name := ℕ) (U := UU) (Lvl := ℕ) (Val := Elt F) (q := fullShare) (f := f)
    (ℓ := oM.view.loc (c : Thread nD τ)) Finset.univ rowS (fun a _ b _ => rowS_disj)
  rw [rowS_cover] at h
  exact h

/-- The whole receive buffer is its fifteen slots. -/
theorem slot_blocks (c : Dev nD) (f : SBuf F) :
    ((sM.view.loc (c : Thread nD τ)) ↦[Finset.univ]{fullShare} f : sProp (MT nD τ sig Unit (Elt F) ℕ UU ℕ))
      = bigSep Finset.univ fun i => slotAt c i f := by
  have h := pointsTo_biUnion (Ix := Unit) (Name := ℕ) (U := UU) (Lvl := ℕ) (Val := Elt F) (q := fullShare) (f := f)
    (ℓ := sM.view.loc (c : Thread nD τ)) Finset.univ slotS (fun a _ b _ => slotS_disj)
  rw [slotS_cover] at h
  exact h

/-- A slot filled from a block of the output holds that block. -/
theorem slot_landed (c : Dev nD) (i : Fin 15) (a : Dev nD) (fd g : SBuf F) (fs : OutBuf F)
    (h : ∀ r k, g (sIx i r k) = fs (oIx a r k)) :
    ((sM.view.loc (c : Thread nD τ)) ↦[slotS i]{fullShare}
        ((slotV i).view.write (Elt F) fd ((rowV a).view.read (Elt F) fs) Finset.univ)
      : sProp (MT nD τ sig Unit (Elt F) ℕ UU ℕ)) = slotAt c i g :=
  pointsTo_congr fun x hx => by
    obtain ⟨r, k, rfl⟩ := mem_slotS.1 hx
    rw [h r k, ← slotV_emb, ← rowV_emb]
    exact View.write_emb_of_mem _ _ (Finset.mem_univ _)

/-- A block of the output filled from the same block elsewhere holds that block. -/
theorem row_landed (c a : Dev nD) (fd fs : OutBuf F) :
    ((oM.view.loc (c : Thread nD τ)) ↦[rowS a]{fullShare}
        ((rowV a).view.write (Elt F) fd ((rowV a).view.read (Elt F) fs) Finset.univ)
      : sProp (MT nD τ sig Unit (Elt F) ℕ UU ℕ)) = outAt c a fullShare fs :=
  pointsTo_congr fun x hx => by
    obtain ⟨r, k, rfl⟩ := mem_rowS.1 hx
    rw [← rowV_emb]
    exact View.write_emb_of_mem _ _ (Finset.mem_univ _)

end Cert.Mesh

end
-- ==== Proof.Schedule.lean ====
/-
# The protocol

Every cell runs one round. A barrier cell is paid one unit by each of the fifteen other devices; the unit at distance
`d` hands over the payer's receive slot `d`. A transfer cell is paid one transfer: a reduce-scatter arrival hands over
the filled slot together with the rows it was read from (so that the all-gather may write there), an all-gather arrival
hands over the final rows, an all-gather departure the share the copy read from.
-/
module

public import proofs.«01_k».proof.Proof.Geometry

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots of time: the offsets still to do, the offsets done -/

def rem (n : ℕ) : Finset (Fin 15) := Finset.univ.filter fun i => n ≤ i.val
def done (n : ℕ) : Finset (Fin 15) := Finset.univ.filter fun i => i.val < n

theorem rem_zero : rem 0 = Finset.univ := by decide
theorem done_zero : done 0 = ∅ := by decide
theorem rem_last : rem 15 = ∅ := by decide
theorem done_last : done 15 = Finset.univ := by decide
theorem rem_cons (i : Fin 15) : rem i.val = insert i (rem (i.val + 1)) := by revert i; decide
theorem done_snoc (i : Fin 15) : done (i.val + 1) = insert i (done i.val) := by revert i; decide
theorem not_mem_rem (i : Fin 15) : i ∉ rem (i.val + 1) := by revert i; decide
theorem not_mem_done (i : Fin 15) : i ∉ done i.val := by revert i; decide
theorem mem_rem {n : ℕ} {i : Fin 15} : i ∈ rem n ↔ n ≤ i.val := by simp [rem]

theorem rem_step (i : Fin 15) (Φ : Fin 15 → sProp 𝕄) :
    bigSep (rem i.val) Φ = iprop(Φ i ∗ bigSep (rem (i.val + 1)) Φ) := by rw [rem_cons, bigSep_insert (not_mem_rem i)]; rfl
theorem done_step (i : Fin 15) (Φ : Fin 15 → sProp 𝕄) :
    bigSep (done (i.val + 1)) Φ = iprop(Φ i ∗ bigSep (done i.val) Φ) := by rw [done_snoc, bigSep_insert (not_mem_done i)]; rfl

/-! ## Which transfer a semaphore counts -/

def kindOf (q : DmaSem sig) : Fin 4 := ⟨(q.val - 6) / 15 % 4, Nat.mod_lt _ (by decide)⟩
def offOf (q : DmaSem sig) : Fin 15 := ⟨(q.val - 6) % 15, Nat.mod_lt _ (by decide)⟩
theorem kindOf_dsem (a : Fin 4) (i : Fin 15) : kindOf (dsem a i) = a := by revert a i; decide
theorem offOf_dsem (a : Fin 4) (i : Fin 15) : offOf (dsem a i) = i := by revert a i; decide
theorem dsem_ge (a : Fin 4) (i : Fin 15) : 6 ≤ (dsem a i).val := by revert a i; decide

/-! ## Contents and shares -/

/-- The slots of device `c` after the reduce-scatter: slot `i` holds `c`'s rows of the part computed `i + 1` places on. -/
def commC (part : Dev nD → OutBuf F) (c : Dev nD) : SBuf F := fun x => part (up c (x 0)) (oIx c (x 1) (x 2))

theorem commC_apply (part : Dev nD → OutBuf F) (c : Dev nD) (i : Fin 15) (r : Fin 16) (k : Fin 1024) :
    commC part c (sIx i r k) = part (up c i) (oIx c r k) := rfl

/-- What is left of the full share after `n` copies have each taken half of the rest. -/
def restQ : ℕ → PosShare TreeShare
  | 0 => fullShare
  | n + 1 => (restQ n).right

theorem outAt_halve (c a : Dev nD) (n : ℕ) (f : OutBuf F) :
    (outAt c a (restQ n) f : sProp 𝕄) ⊣⊢ iprop(outAt c a (restQ n).left f ∗ outAt c a (restQ (n + 1)) f) :=
  pointsTo_share (PosShare.mem_left_op_right (restQ n))

/-! ## The schedule -/

section
variable (part : Dev nD → OutBuf F) (fin : OutBuf F)

/-- What the barrier unit at distance `d` hands device `c`. -/
def barPay (c : Dev nD) (d : Fin 15) : sProp 𝕄 := iprop(∃ f, slotAt c d f)

/-- What a finished transfer of kind `a` (0: reduce-scatter sent, 1: received, 2: all-gather sent, 3: received) at
    offset `i` hands device `c`. -/
def xferPay (c : Dev nD) (a : Fin 4) (i : Fin 15) : sProp 𝕄 :=
  match a with
  | 0 => iprop(emp)
  | 1 => iprop(slotAt c i (commC part c) ∗ outAt (up c i) c fullShare (part (up c i)))
  | 2 => outAt c c (restQ i.val).left fin
  | 3 => outAt c (up c i.rev) fullShare fin

instance outAt_storable (c a : Dev nD) (q : PosShare TreeShare) (f : OutBuf F) :
    BI.Storable (upEmb : UEmb _ 𝕄) (outAt (F := F) c a q f) := by unfold outAt; infer_instance
instance slotAt_storable (c : Dev nD) (i : Fin 15) (f : SBuf F) :
    BI.Storable (upEmb : UEmb _ 𝕄) (slotAt (F := F) c i f) := by unfold slotAt; infer_instance
instance xferPay_storable (c : Dev nD) (a : Fin 4) (i : Fin 15) :
    BI.Storable (upEmb : UEmb _ 𝕄) (xferPay part fin c a i) := by
  unfold xferPay
  split <;> infer_instance

def locPay (c : Dev nD) (sm : SemLoc sig) (d : Fin 15) : sProp 𝕄 :=
  match sm with
  | .reg _ => barPay (up c d.rev) d
  | .dma q => xferPay part fin c (kindOf q) (offOf q)

instance locPay_storable (c : Dev nD) (sm : SemLoc sig) (d : Fin 15) :
    BI.Storable (upEmb : UEmb _ 𝕄) (locPay part fin c sm d) := by
  unfold locPay barPay
  split <;> infer_instance

/-- The duties of a cell by its semaphore: all fifteen at a barrier, the one transfer at a transfer semaphore. -/
def locDuties (sm : SemLoc sig) : Finset (Fin 15) :=
  match sm with
  | .reg _ => Finset.univ
  | .dma q => if 6 ≤ q.val then {0} else ∅

def locAmount (sm : SemLoc sig) : ℕ :=
  match sm with
  | .reg _ => 1
  | .dma _ => N

def sched : Rounds.Schedule (GSem nD τ sig) (Fin 15) 𝕄 where
  duties g r := if r = 0 ∧ g.1.2 = .tc then locDuties g.2 else ∅
  unitless _ := False
  amount g _ _ := locAmount g.2
  payload g _ d := locPay part fin g.1.1 g.2 d
  amount_pos g _ _ _ := by
    unfold locAmount
    split
    · exact Nat.one_pos
    · exact N_pos

instance sched_storable (g : GSem nD τ sig) (r : ℕ) (d : Fin 15) :
    BI.Storable (upEmb : UEmb _ 𝕄) ((sched part fin).payload g r d) := by
  show BI.Storable upEmb (locPay part fin g.1.1 g.2 d)
  infer_instance

variable (c : Dev nD) (a : Fin 4) (i : Fin 15)

theorem duties_bar : (sched part fin).duties (barCell c) 0 = Finset.univ := by
  dsimp only [sched]; exact if_pos ⟨rfl, rfl⟩
theorem duties_x : (sched part fin).duties (dCell c a i) 0 = {0} := by
  dsimp only [sched]; rw [if_pos ⟨rfl, rfl⟩]; exact if_pos (dsem_ge a i)
theorem duties_later (g : GSem nD τ sig) : ∀ r, 1 ≤ r → (sched part fin).duties g r = ∅ := fun r hr => by
  dsimp only [sched]; exact if_neg fun h => by omega

theorem amount_bar (d : Fin 15) : (sched part fin).amount (barCell c) 0 d = 1 := rfl
theorem amount_x (d : Fin 15) : (sched part fin).amount (dCell c a i) 0 d = N := rfl

theorem expect_bar : (sched part fin).expect (barCell c) 0 = 15 := by
  unfold Schedule.expect Schedule.amountOf
  rw [duties_bar, Finset.sum_congr rfl fun d _ => amount_bar part fin c d, Finset.sum_const, Finset.card_univ, Fintype.card_fin,
    smul_eq_mul, Nat.mul_one]
theorem expect_x : (sched part fin).expect (dCell c a i) 0 = N := by
  unfold Schedule.expect Schedule.amountOf; rw [duties_x, Finset.sum_singleton, amount_x]

theorem payload_bar (d : Fin 15) : (sched part fin).payload (barCell c) 0 d = barPay (up c d.rev) d := rfl
theorem payload_x (d : Fin 15) : (sched part fin).payload (dCell c a i) 0 d = xferPay part fin c a i := by
  show xferPay part fin c (kindOf (dsem a i)) (offOf (dsem a i)) = _
  rw [kindOf_dsem, offOf_dsem]

theorem rest_bar : bigSep ((sched part fin).duties (barCell c) 0 \ ∅) (fun d => (sched part fin).payload (barCell c) 0 d)
    = bigSep Finset.univ fun d => barPay (F := F) (up c d.rev) d := by
  rw [Finset.sdiff_empty, duties_bar]; rfl
theorem rest_x : bigSep ((sched part fin).duties (dCell c a i) 0 \ ∅) (fun d => (sched part fin).payload (dCell c a i) 0 d)
    = xferPay part fin c a i := by
  rw [Finset.sdiff_empty, duties_x, bigSep_singleton, payload_x]

end

/-! ## What a device owes, and the levels -/

def oweBar (c : Dev nD) (n : ℕ) : CellTallies nD τ sig Unit := ∑ i ∈ rem n, tallyAt (barCell (up c i)) () 1
def oweRs (c : Dev nD) (n : ℕ) : CellTallies nD τ sig Unit := ∑ i ∈ rem n, tallyAt (dCell (up c i) 1 i.rev) () N
def oweAg (c : Dev nD) (n : ℕ) : CellTallies nD τ sig Unit := ∑ i ∈ rem n, tallyAt (dCell (up c i) 3 i) () N

/-- Device `c` has given `a` barrier units, started `b` reduce-scatter copies and `d` all-gather copies. -/
def owe (c : Dev nD) (a b d : ℕ) : CellTallies nD τ sig Unit := oweBar c a + oweRs c b + oweAg c d

theorem owe_bar (c : Dev nD) (i : Fin 15) (b d : ℕ) :
    owe c i.val b d = owe c (i.val + 1) b d + tallyAt (barCell (up c i)) () 1 := by
  unfold owe oweBar
  rw [rem_cons, Finset.sum_insert (not_mem_rem i)]; ac_rfl
theorem owe_rs (c : Dev nD) (a : ℕ) (i : Fin 15) (d : ℕ) :
    owe c a i.val d = owe c a (i.val + 1) d + tallyAt (dCell (up c i) 1 i.rev) () N := by
  unfold owe oweRs
  rw [rem_cons, Finset.sum_insert (not_mem_rem i)]; ac_rfl
theorem owe_ag (c : Dev nD) (a b : ℕ) (i : Fin 15) :
    owe c a b i.val = owe c a b (i.val + 1) + tallyAt (dCell (up c i) 3 i) () N := by
  unfold owe oweAg
  rw [rem_cons, Finset.sum_insert (not_mem_rem i)]; ac_rfl
theorem owe_done (c : Dev nD) : owe c 15 15 15 = 0 := by
  unfold owe oweBar oweRs oweAg; rw [rem_last]; simp

def L (g : GSem nD τ sig) : Finset Unit := if g.1.2 = .tc then {()} else ∅

/-- Staging and departure cells lie lowest, then the barrier, then reduce-scatter arrivals, then all-gather arrivals. -/
def locLv (sm : SemLoc sig) : ℕ :=
  match sm with
  | .reg _ => 1
  | .dma q => if 6 ≤ q.val then (match kindOf q with | 1 => 2 | 3 => 3 | _ => 0) else 0
def lv (g : GSem nD τ sig) (_ : Unit) : ℕ := locLv g.2

theorem L_of_ne (g : GSem nD τ sig) (h : g.1.2 ≠ .tc) : L g = ∅ := if_neg h
theorem L_tc (c : Dev nD) (sm : SemLoc sig) : L ((c : Thread nD τ), sm) = {()} := if_pos rfl

theorem lv_x (a : Fin 4) (i : Fin 15) : locLv (.dma (dsem a i)) = (match a with | 1 => 2 | 3 => 3 | _ => 0) := by
  show (if 6 ≤ (dsem a i).val then _ else _) = _
  rw [if_pos (dsem_ge a i), kindOf_dsem]

theorem sum_pos {S : Finset (Fin 15)} {T : Fin 15 → CellTallies nD τ sig Unit} {g : GSem nD τ sig} {u : Unit}
    (h : 0 < (∑ i ∈ S, T i) g u) : ∃ i ∈ S, 0 < T i g u := by
  rw [Finset.sum_apply, Finsupp.finsetSum_apply] at h
  by_contra hn
  push Not at hn
  rw [Finset.sum_eq_zero (fun i hi => Nat.le_zero.mp (hn i hi))] at h
  exact Nat.lt_irrefl 0 h

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owe_pos {c : Dev nD} {a b d : ℕ} {g : GSem nD τ sig} {u : Unit} (h : 0 < owe c a b d g u) :
    (∃ i : Fin 15, a ≤ i.val ∧ g = barCell (up c i)) ∨ (∃ i : Fin 15, b ≤ i.val ∧ g = dCell (up c i) 1 i.rev)
      ∨ (∃ i : Fin 15, d ≤ i.val ∧ g = dCell (up c i) 3 i) := by
  unfold owe at h
  rw [Pi.add_apply, Finsupp.add_apply, Pi.add_apply, Finsupp.add_apply] at h
  rcases Nat.eq_zero_or_pos (oweBar c a g u) with h1 | h1
  · rcases Nat.eq_zero_or_pos (oweRs c b g u) with h2 | h2
    · rw [h1, h2, Nat.zero_add] at h
      obtain ⟨i, hi, hp⟩ := sum_pos h
      exact .inr (.inr ⟨i, mem_rem.1 hi, tally_pos hp⟩)
    · obtain ⟨i, hi, hp⟩ := sum_pos h2
      exact .inr (.inl ⟨i, mem_rem.1 hi, tally_pos hp⟩)
  · obtain ⟨i, hi, hp⟩ := sum_pos h1
    exact .inl ⟨i, mem_rem.1 hi, tally_pos hp⟩

/-- A wait is allowed when its cell lies below every cell still owed. -/
theorem mayWait_owe (c : Dev nD) (sm : SemLoc sig) (a b d : ℕ) (hb : a < 15 → locLv sm < 1) (hr : b < 15 → locLv sm < 2)
    (hg : d < 15 → locLv sm < 3) :
    (levAts L lv : sProp 𝕄) ⊢ MayWait (c : Thread nD τ) sm () (owe c a b d) :=
  MayOwe.of_cut (L := L) (lev := lv) (locLv sm) (fun p hp => by rw [Finset.mem_singleton.mp hp, L_tc]; exact Finset.mem_singleton_self _)
    (fun g u h => by
      rcases owe_pos h with ⟨i, -, rfl⟩ | ⟨i, -, rfl⟩ | ⟨i, -, rfl⟩ <;> exact Finset.mem_singleton_self _)
    (fun p hp => by rw [Finset.mem_singleton.mp hp]; exact le_refl _)
    (fun g u h => by
      rcases owe_pos h with ⟨i, hi, rfl⟩ | ⟨i, hi, rfl⟩ | ⟨i, hi, rfl⟩
      · exact hb (lt_of_le_of_lt hi i.isLt)
      · refine lt_of_lt_of_eq (hr (lt_of_le_of_lt hi i.isLt)) ?_
        exact (lv_x 1 i.rev).symm
      · refine lt_of_lt_of_eq (hg (lt_of_le_of_lt hi i.isLt)) ?_
        exact (lv_x 3 i).symm)

end Cert.Mesh

end
-- ==== Proof.Steps.lean ====
/-
# One operation at a time

Each kind of operation of the body once, at a device `c` and an offset `i`: what it consumes of the state before it and
what the state after it is. The states are indexed by how many offsets have been dealt with.
-/
module

public import proofs.«01_k».proof.Proof.Schedule

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 8000

abbrev 𝒱₀ : Variants := Variants.none

section
variable (part : Dev nD → OutBuf F) (fin : OutBuf F)

/-! ## What every device may use throughout: all cells' invariants, all opened, and the levels -/

def records (K : Dev nD × Option (Fin 4 × Fin 15) → ℕ) : sProp 𝕄 :=
  iprop((bigSep Finset.univ fun ck : Dev nD × Option (Fin 4 × Fin 15) => cellInv ER (sched part fin) (K ck) (kcell ck))
    ∗ bigSep Finset.univ fun ck : Dev nD × Option (Fin 4 × Fin 15) => reached ER (kcell ck) 0)

instance records_persistent (K : Dev nD × Option (Fin 4 × Fin 15) → ℕ) : BI.Persistent (records part fin K) := by
  unfold records; infer_instance

def ctx (K : Dev nD × Option (Fin 4 × Fin 15) → ℕ) : sProp 𝕄 := iprop(records part fin K ∗ levAts L lv)

instance ctx_persistent (K : Dev nD × Option (Fin 4 × Fin 15) → ℕ) : BI.Persistent (ctx part fin K) := by
  unfold ctx; infer_instance

variable (K : Dev nD × Option (Fin 4 × Fin 15) → ℕ)

theorem inv_of (ck : Dev nD × Option (Fin 4 × Fin 15)) :
    (bigSep Finset.univ fun ck : Dev nD × Option (Fin 4 × Fin 15) => (cellInv ER (sched part fin) (K ck) (kcell ck) : sProp 𝕄))
      ⊢ cellInv ER (sched part fin) (K ck) (kcell ck) :=
  bigSep_elim (Finset.mem_univ ck)

theorem reached_of (ck : Dev nD × Option (Fin 4 × Fin 15)) :
    (bigSep Finset.univ fun ck : Dev nD × Option (Fin 4 × Fin 15) => (reached ER (kcell ck) 0 : sProp 𝕄)) ⊢ reached ER (kcell ck) 0 :=
  bigSep_elim (Finset.mem_univ ck)

theorem inv_at (ck : Dev nD × Option (Fin 4 × Fin 15)) : ctx part fin K ⊢ cellInv ER (sched part fin) (K ck) (kcell ck) := by
  unfold ctx records
  iintro ⟨⟨HI, -⟩, -⟩
  iapply (inv_of part fin K ck)
  iexact HI

theorem reached_at (ck : Dev nD × Option (Fin 4 × Fin 15)) : ctx part fin K ⊢ reached ER (kcell ck) 0 := by
  unfold ctx records
  iintro ⟨⟨-, HR⟩, -⟩
  iapply (reached_of (F := F) ck)
  iexact HR

theorem lev_at : ctx part fin K ⊢ levAts L lv := by
  unfold ctx
  iintro ⟨-, H⟩
  iexact H

/-! ## The states -/

/-- Device `c` owes `O`, whatever it has waited for. -/
def owing (c : Dev nD) (O : CellTallies nD τ sig Unit) : sProp 𝕄 := iprop(∃ W, owes (c : Thread nD τ) O W)

/-- Giving the barrier units: `n` given. -/
def sigSt (c : Dev nD) (n : ℕ) : sProp 𝕄 :=
  iprop(owing c (owe c n 0 0) ∗ bigSep (rem n) fun i => iprop(dutyTok ER (barCell (up c i)) 0 i ∗ ∃ f, slotAt c i f))

/-- The reduce-scatter copies: `n` started. -/
def rsSt (c : Dev nD) (n : ℕ) : sProp 𝕄 :=
  iprop(owing c (owe c 15 n 0)
    ∗ (bigSep (rem n) fun i => iprop((∃ f, slotAt (up c i) i.rev f) ∗ outAt c (up c i) fullShare (part c)
        ∗ dutyTok ER (dCell c 0 i) 0 0 ∗ dutyTok ER (dCell (up c i) 1 i.rev) 0 0))
    ∗ bigSep (done n) fun i => cred (tallyAt (dCell c 0 i) () N))

/-- The all-gather copies: `n` started. -/
def agSt (c : Dev nD) (n : ℕ) : sProp 𝕄 :=
  iprop(owing c (owe c 15 15 n) ∗ outAt c c (restQ n) fin
    ∗ (bigSep (rem n) fun i => iprop((∃ f, outAt (up c i) c fullShare f)
        ∗ dutyTok ER (dCell c 2 i) 0 0 ∗ dutyTok ER (dCell (up c i) 3 i) 0 0))
    ∗ bigSep (done n) fun i => cred (tallyAt (dCell c 2 i) () N))

/-- Waiting for the transfers of kind `a`, in the order `σ`, owing `O`: `n` waits done. -/
def waitSt (a : Fin 4) (σ : Fin 15 → Fin 15) (O : CellTallies nD τ sig Unit) (c : Dev nD) (n : ℕ) : sProp 𝕄 :=
  iprop(owing c O
    ∗ (bigSep (rem n) fun i => iprop(cred (tallyAt (dCell c a (σ i)) () N) ∗ atPos ER (dCell c a (σ i)) 0 ∅ 0))
    ∗ bigSep (done n) fun i => iprop(atPos ER (dCell c a (σ i)) 1 ∅ 0 ∗ xferPay part fin c a (σ i)))

/-! ## The steps -/

theorem signal_step (c n : Dev nD) (i : Fin 15) (m : ℕ) (hm : m = i.val) (hn : n = up c i) (z : ℤ) (hz : z = (1 : ℕ))
    {α : Type} {Q : α → sProp 𝕄} {k : PUnit → Prog (TpuEff nD τ sig (Elt F) Λ₀ .tc) α} :
    iprop(ctx part fin K ∗ sigSt c m)
      ⊢ iprop((sigSt c (m + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS z) k) Q) := by
  subst hm
  subst hn hz
  unfold sigSt owing
  rw [rem_step]
  iintro ⟨#HC, ⟨%W, HO⟩, ⟨Ht, Hs⟩, Hrest⟩ Hk
  iapply (Rounds.wp_signal 𝒱₀ ER (sched part fin) (c : Thread nD τ) none (dst := (up c i : Thread nD τ)) (κ := K (up c i, none))
      (d := i) (by rw [duties_bar]; exact Finset.mem_univ _) (amount_bar part fin (up c i) i) () (owe c (i.val + 1) 0 0) (owe_bar c i 0 0))
    $$ [HO Ht Hs]
  · isplitr; · iapply (inv_at part fin K (up c i, none)); iexact HC
    isplitl [HO]; · iexact HO
    isplitl [Ht]; · iexact Ht
    isplitl [Hs]
    · rw [payload_bar, up_rev_up]; unfold barPay; iexact Hs
    · iapply (reached_at part fin K (up c i, none)); iexact HC
  iintro HO
  iapply Hk
  isplitl [HO]; · iexists W; iexact HO
  iexact Hrest

/-- The barrier: all fifteen other devices' slots facing `c`. -/
theorem barrier_step (c : Dev nD) (z : ℤ) (hz : z = (15 : ℕ)) {α : Type} {Q : α → sProp 𝕄} {k : PUnit → Prog (TpuEff nD τ sig (Elt F) Λ₀ .tc) α} :
    iprop(ctx part fin K ∗ cred (tallyAt (barCell c) () 15) ∗ atPos ER (barCell c) 0 ∅ 0 ∗ sigSt c 15)
      ⊢ iprop(((owing c (owe c 15 0 0) ∗ atPos ER (barCell c) 1 ∅ 0 ∗ bigSep Finset.univ fun i : Fin 15 => iprop(∃ f, slotAt (F := F) (up c i) i.rev f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  unfold sigSt owing
  iintro ⟨#HC, Hc, Hat, ⟨%W, HO⟩, -⟩ Hk
  iapply (Rounds.wp_wait_rest_token 𝒱₀ ER (sched part fin) (c : Thread nD τ) none (κ := K (c, none))
      (wpE_semWait_eq 𝒱₀ (c : Thread nD τ) none Set.univ) (Set.mem_univ _) () (O := owe c 15 0 0) (W := W) (R := 0) (m := 0) (T := ∅)
      (by rw [expect_bar])) $$ [Hc HO Hat]
  · isplitr; · iapply (inv_at part fin K (c, none)); iexact HC
    isplitl [Hc]; · iexact Hc
    isplitl [HO]; · iexact HO
    isplitr
    · iapply ((lev_at part fin K).trans (mayWait_owe c (.reg barS) 15 0 0 (fun h => absurd h (by decide)) (fun _ => by decide) (fun _ => by decide)))
      iexact HC
    iexact Hat
  iintro ⟨HO, Hat, -, Hpay⟩
  ihave Hp := (Entails.of_eq (rest_bar part fin c)) $$ Hpay
  iapply Hk
  isplitl [HO]; · iexists _; iexact HO
  isplitl [Hat]; · iexact Hat
  iapply (Entails.of_eq (show (bigSep Finset.univ fun d => barPay (F := F) (up c d.rev) d)
      = bigSep Finset.univ fun i : Fin 15 => iprop(∃ f, slotAt (F := F) (up c i) i.rev f) by
    rw [bigSep_univ_equiv Fin.revPerm (fun d => barPay (F := F) (up c d.rev) d)]
    refine bigSep_congr fun i _ => ?_
    show barPay (F := F) (up c i.rev.rev) i.rev = _
    rw [Fin.rev_rev]; rfl))
  iexact Hp

theorem rs_step (c n : Dev nD) (i : Fin 15) (m : ℕ) (hm : m = i.val) (hn : n = up c i) {src : Memref sig .tc .vmem S16x1024 .bf16} (hsrc' : src = rowV (up c i))
    {dst : Memref sig (Dev.tc n : Thread nD τ).2.kind .vmem S16x1024 .bf16} (hdst' : dst = slotV i.rev)
    {s₁ s₂ : DmaSem sig} (h₁ : s₁ = dsem 0 i) (h₂ : s₂ = dsem 1 i.rev)
    {hsc : dst.view.ref.isScScratch = false} {hsrc : src.view.WordExact} {hdst : dst.view.WordExact}
    {hsem : DmaTarget.Typed .vmem (.dma s₂) (.remote (Dev.tc n : Thread nD τ) dst (.dma s₁) hsc)}
    {α : Type} {Q : α → sProp 𝕄} {k : PUnit → Prog (TpuEff nD τ sig (Elt F) Λ₀ .tc) α} :
    iprop(ctx part fin K ∗ rsSt part c m)
      ⊢ iprop((rsSt part c (m + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s₁) hsc) (.dma s₂) hsrc hdst hsem) k) Q) := by
  subst hm
  subst hn hsrc' hdst' h₁ h₂
  unfold rsSt owing
  rw [rem_step, done_step]
  iintro ⟨#HC, ⟨%W, HO⟩, ⟨⟨⟨%fd, Hd⟩, Hsrc, Ht₁, Ht₂⟩, Hrest⟩, Hdone⟩ Hk
  unfold slotAt outAt
  iapply (Rounds.wp_send_landing_pointsTo 𝒱₀ ER (sched part fin) (c : Thread nD τ) none (src := rowV (up c i)) (dst := slotV i.rev) (c' := (up c i : Thread nD τ))
      (sS := .dma (dsem 0 i)) (sem := .dma (dsem 1 i.rev)) (q := fullShare) (fs := part c) (κ₁ := K (c, some (0, i)))
      (κ₂ := K (up c i, some (1, i.rev))) (r₁ := 0) (r₂ := 0) (d₁ := 0) (d₂ := 0) (fd := fd)
      (by rw [duties_x]; exact Finset.mem_singleton_self _) (by rw [duties_x]; exact Finset.mem_singleton_self _)
      () () N (show (slotV i.rev).view.amount (.dma (dsem 1 i.rev)) = N from slot_credit i.rev) (amount_x part fin c 0 i 0) (amount_x part fin (up c i) 1 i.rev 0)
      (owe c 15 (i.val + 1) 0) (owe_rs c 15 i 0) (W := W)
      (by rw [payload_x]; exact BI.Entails.refl _)
      (by
        rw [payload_x]
        show _ ⊢ iprop(slotAt (up c i) i.rev (commC part (up c i)) ∗ outAt (up (up c i) i.rev) (up c i) fullShare (part (up (up c i) i.rev)))
        rw [up_rev_up, ← slot_landed (up c i) i.rev (up c i) fd (commC part (up c i)) (part c) (fun r k => by rw [commC_apply, up_rev_up])]
        unfold outAt
        exact BI.Entails.refl _)) $$ [HO Hd Hsrc Ht₁ Ht₂]
  · isplitr; · iapply (inv_at part fin K (c, some (0, i))); iexact HC
    isplitr; · iapply (inv_at part fin K (up c i, some (1, i.rev))); iexact HC
    isplitl [Hsrc]; · iexact Hsrc
    isplitl [Hd]; · iexact Hd
    isplitl [HO]; · iexact HO
    isplitl [Ht₁]; · iexact Ht₁
    isplitr; · iapply (reached_at part fin K (c, some (0, i))); iexact HC
    isplitl [Ht₂]; · iexact Ht₂
    iapply (reached_at part fin K (up c i, some (1, i.rev))); iexact HC
  iintro ⟨Hcr, HO⟩
  iapply Hk
  isplitl [HO]; · iexists W; iexact HO
  isplitl [Hrest]; · iexact Hrest
  isplitl [Hcr] <;> iassumption

theorem ag_step (c n : Dev nD) (i : Fin 15) (m : ℕ) (hm : m = i.val) (hn : n = up c i) {src : Memref sig .tc .vmem S16x1024 .bf16} (hsrc' : src = rowV c)
    {dst : Memref sig (Dev.tc n : Thread nD τ).2.kind .vmem S16x1024 .bf16} (hdst' : dst = rowV c)
    {s₁ s₂ : DmaSem sig} (h₁ : s₁ = dsem 2 i) (h₂ : s₂ = dsem 3 i)
    {hsc : dst.view.ref.isScScratch = false} {hsrc : src.view.WordExact} {hdst : dst.view.WordExact}
    {hsem : DmaTarget.Typed .vmem (.dma s₂) (.remote (Dev.tc n : Thread nD τ) dst (.dma s₁) hsc)}
    {α : Type} {Q : α → sProp 𝕄} {k : PUnit → Prog (TpuEff nD τ sig (Elt F) Λ₀ .tc) α} :
    iprop(ctx part fin K ∗ agSt fin c m)
      ⊢ iprop((agSt fin c (m + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s₁) hsc) (.dma s₂) hsrc hdst hsem) k) Q) := by
  subst hm
  subst hn hsrc' hdst' h₁ h₂
  unfold agSt owing
  rw [rem_step, done_step]
  iintro ⟨#HC, ⟨%W, HO⟩, Hown, ⟨⟨⟨%fd, Hd⟩, Ht₁, Ht₂⟩, Hrest⟩, Hdone⟩ Hk
  ihave Hh := (outAt_halve c c i.val fin).1 $$ Hown
  icases Hh with ⟨Hsrc, Hown⟩
  ihave Hsrc' := (Entails.of_eq (show (outAt c c (restQ i.val).left fin : sProp 𝕄)
    = ((rowV c).view.loc (c : Thread nD τ) ↦[(rowV c).view.set]{(restQ i.val).left} fin) from rfl)) $$ Hsrc
  ihave Hd' := (Entails.of_eq (show (outAt (up c i) c fullShare fd : sProp 𝕄)
    = ((rowV c).view.loc (up c i : Thread nD τ) ↦[(rowV c).view.set]{fullShare} fd) from rfl)) $$ Hd
  iapply (Rounds.wp_send_pointsTo 𝒱₀ ER (sched part fin) (c : Thread nD τ) none (src := rowV c) (dst := rowV c) (c' := (up c i : Thread nD τ))
      (sS := .dma (dsem 2 i)) (sem := .dma (dsem 3 i)) (κ₁ := K (c, some (2, i)))
      (κ₂ := K (up c i, some (3, i))) (r₁ := 0) (r₂ := 0) (d₁ := 0) (d₂ := 0) (fd := fd) (fs := fin) (q := (restQ i.val).left)
      (by rw [duties_x]; exact Finset.mem_singleton_self _) (by rw [duties_x]; exact Finset.mem_singleton_self _)
      () () N (show (rowV c).view.amount (.dma (dsem 3 i)) = N from row_credit c) (amount_x part fin c 2 i 0) (amount_x part fin (up c i) 3 i 0)
      (owe c 15 15 (i.val + 1)) (owe_ag c 15 15 i) (W := W)
      (by rw [payload_x]; exact BI.Entails.refl _)
      (by
        rw [payload_x]
        show _ ⊢ outAt (up c i) (up (up c i) i.rev) fullShare fin
        rw [up_rev_up]
        exact Entails.of_eq (row_landed (up c i) c fd fin))) $$ [HO Hd' Hsrc' Ht₁ Ht₂]
  · isplitr; · iapply (inv_at part fin K (c, some (2, i))); iexact HC
    isplitr; · iapply (inv_at part fin K (up c i, some (3, i))); iexact HC
    isplitl [Hsrc']; · iexact Hsrc'
    isplitl [Hd']; · iexact Hd'
    isplitl [HO]; · iexact HO
    isplitl [Ht₁]; · iexact Ht₁
    isplitr; · iapply (reached_at part fin K (c, some (2, i))); iexact HC
    isplitl [Ht₂]; · iexact Ht₂
    iapply (reached_at part fin K (up c i, some (3, i))); iexact HC
  iintro ⟨Hcr, HO⟩
  iapply Hk
  isplitl [HO]; · iexists W; iexact HO
  isplitl [Hown]; · iexact Hown
  isplitl [Hrest]; · iexact Hrest
  isplitl [Hcr] <;> iassumption

theorem wait_step (a : Fin 4) (σ : Fin 15 → Fin 15) (x y z : ℕ) (hx : x < 15 → locLv (.dma (dsem a 0)) < 1)
    (hy : y < 15 → locLv (.dma (dsem a 0)) < 2) (hz : z < 15 → locLv (.dma (dsem a 0)) < 3) (c : Dev nD) (i : Fin 15) (m : ℕ) (hm : m = i.val)
    {sm : DmaSem sig} (hsm : sm = dsem a (σ i)) {src dst : Memref sig .tc .vmem S16x1024 .bf16} (hN : dst.view.dmaCredit = N)
    {hsrc : src.view.WordExact} {hdst : dst.view.WordExact}
    {α : Type} {Q : α → sProp 𝕄} {k : PUnit → Prog (TpuEff nD τ sig (Elt F) Λ₀ .tc) α} :
    iprop(ctx part fin K ∗ waitSt part fin a σ (owe c x y z) c m)
      ⊢ iprop((waitSt part fin a σ (owe c x y z) c (m + 1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hm
  subst hsm
  unfold waitSt owing
  rw [rem_step, done_step]
  iintro ⟨#HC, ⟨%W, HO⟩, ⟨⟨Hc, Hat⟩, Hrest⟩, Hdone⟩ Hk
  have hl : locLv (.dma (dsem a (σ i))) = locLv (.dma (dsem a 0)) := by rw [lv_x, lv_x]
  iapply (Rounds.wp_wait_rest_token 𝒱₀ ER (sched part fin) (c : Thread nD τ) none (κ := K (c, some (a, σ i)))
      (wpE_waitDma2_eq 𝒱₀ (c : Thread nD τ) none Set.univ) (Set.mem_univ _) () (O := owe c x y z) (W := W) (R := 0) (m := 0) (T := ∅)
      (by rw [Nat.zero_add, expect_x]; exact hN)) $$ [Hc HO Hat]
  · isplitr; · iapply (inv_at part fin K (c, some (a, σ i))); iexact HC
    isplitl [Hc]; · rw [hN]; iexact Hc
    isplitl [HO]; · iexact HO
    isplitr
    · iapply ((lev_at part fin K).trans (mayWait_owe c (.dma (dsem a (σ i))) x y z (by rw [hl]; exact hx) (by rw [hl]; exact hy) (by rw [hl]; exact hz)))
      iexact HC
    iexact Hat
  iintro ⟨HO, Hat, -, Hpay⟩
  ihave Hp := (Entails.of_eq (rest_x part fin c a (σ i))) $$ Hpay
  iapply Hk
  isplitl [HO]; · iexists _; iexact HO
  isplitl [Hrest]; · iexact Hrest
  isplitl [Hat Hp]
  · isplitl [Hat] <;> iassumption
  iexact Hdone

/-! ## Closing the cells -/

theorem close_x (c : Dev nD) (a : Fin 4) (i : Fin 15) :
    iprop(ctx part fin K ∗ atPos ER (dCell c a i) 1 ∅ 0) ⊢ (|={Set.univ}=> semVal (dCell c a i) 0 : sProp 𝕄) := by
  iintro ⟨#HC, Hat⟩
  iapply (Rounds.cell_close ER (sched part fin) (Set.mem_univ (K (c, some (a, i)))) (fun h => h) (R := 1)
    (duties_later part fin (dCell c a i)))
  isplitr; · iapply (inv_at part fin K (c, some (a, i))); iexact HC
  iexact Hat

theorem close_bar (c : Dev nD) :
    iprop(ctx part fin K ∗ atPos ER (barCell c) 1 ∅ 0) ⊢ (|={Set.univ}=> semVal (barCell c) 0 : sProp 𝕄) := by
  iintro ⟨#HC, Hat⟩
  iapply (Rounds.cell_close ER (sched part fin) (Set.mem_univ (K (c, none))) (fun h => h) (R := 1)
    (duties_later part fin (barCell c)))
  isplitr; · iapply (inv_at part fin K (c, none)); iexact HC
  iexact Hat

end

end Cert.Mesh

end
-- ==== Proof.Contents.lean ====
/-
# What the buffers hold

Device `c` stages its input `x` and its blocks of the weights. Its part of the projection is `part`: all 256 rows. Block
`a` of the final rows is device `a`'s sum of its own part's rows and the fifteen received ones; after the all-gather every
device holds all sixteen blocks.
-/
module

public import proofs.«01_k».proof.Proof.Steps

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## The staged inputs -/

abbrev xM : Memref sig .tc .vmem S1x256x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0

theorem wo_inb (h : Fin 8) : ∀ x, (![128 * h.val, 0] : Fin 2 → ℕ) x + S128x1024.size x ≤ S1024x1024.size x := by revert h; decide

/-- The 128 rows of head `h` in the staged output weights. -/
def woSl (h : Fin 8) (wo : Vec F S1024x1024 .bf16) : Vec F S128x1024 .bf16 :=
  woM.view.readAt (Elt F) (Rect.unit (s := S1024x1024) ![128 * h.val, 0] S128x1024.size (wo_inb h)).toLoadRect wo

/-- Device rows `a` of an output buffer, and slot `i` of a receive buffer, as the body loads them. -/
def rowRd (a : Dev nD) (f : OutBuf F) : Vec F S1x16x1024 .bf16 := oM.view.readAt (Elt F) (rowR a).toLoadRect f
def slotRd (i : Fin 15) (f : SBuf F) : Vec F S1x16x1024 .bf16 := sM.view.readAt (Elt F) (slotR i).toLoadRect f

/-- A device's part of the projection, from its staged inputs. -/
def partOf (x : Vec F S1x256x1024 .bf16) (wq wo wk wv : Vec F S1024x1024 .bf16) : OutBuf F :=
  let v65 := k0_pay1 x
  let v68 := k0_pay2 x wq
  let v71 := k0_pay3 x wk
  let v74 := k0_pay4 v65 wv
  let v159 := k0_pay7 v68 v71 v74 (k0_pay5 v65 v68 v71 wv (woSl 0 wo)) (k0_pay6 v65 v68 v71 wv (woSl 1 wo)) (woSl 2 wo) (woSl 3 wo)
  let v201 := k0_pay10 v68 v71 v74 v159 (k0_pay8 v68) (k0_pay9 (F := F)) (woSl 4 wo) (woSl 5 wo)
  k0_pay13 v68 v71 v74 v201 (k0_pay11 v68) (k0_pay12 v71) (woSl 6 wo) (woSl 7 wo)

/-- The sum of a device's own rows and its fifteen slots. -/
def sumOf (own : Vec F S1x16x1024 .bf16) (s : Fin 15 → Vec F S1x16x1024 .bf16) : Vec F S1x16x1024 .bf16 :=
  k0_pay16 (k0_pay14 own (s 0) (s 1) (s 2) (s 3) (s 4) (s 5) (s 6)) (k0_pay15 (s 7)) (s 8) (s 9) (s 10) (s 11) (s 12) (s 13) (s 14)

/-- The final rows of block `a`: device `a`'s sum. -/
def blkOf (part : Dev nD → OutBuf F) (a : Dev nD) : Vec F S1x16x1024 .bf16 :=
  sumOf (rowRd a (part a)) fun i => slotRd i (commC part a)

/-- What every device's output holds in the end. -/
def finOf (part : Dev nD → OutBuf F) : OutBuf F := fun (x : S1x256x1024.Idx) =>
  blkOf part ⟨(x 1).val / 16, Nat.div_lt_of_lt_mul (x 1).isLt⟩
    (ix3 (n0 := 1) (n1 := 16) (n2 := 1024) 0 ⟨(x 1).val % 16, Nat.mod_lt _ (by decide)⟩ (x 2))

theorem finOf_row (part : Dev nD → OutBuf F) (a : Dev nD) (r : Fin 16) (k : Fin 1024) :
    finOf part (oIx a r k) = blkOf part a (ix3 (n0 := 1) (n1 := 16) (n2 := 1024) 0 r k) := by
  have h1 : (16 * a.val + r.val) / 16 = a.val := by have := r.isLt; omega
  have h2 : (16 * a.val + r.val) % 16 = r.val := by have := r.isLt; omega
  show blkOf part ⟨(16 * a.val + r.val) / 16, _⟩ (ix3 (n0 := 1) (n1 := 16) (n2 := 1024) 0 ⟨(16 * a.val + r.val) % 16, _⟩ k) = _
  congr 1
  · exact Fin.ext h1
  · exact ix3_ext rfl h2 rfl

/-! ## Loads and stores -/

section
variable (c : Dev nD)

/-- A whole staged buffer of device `c` held at `f`. -/
abbrev xPt (f : Vec F S1x256x1024 .bf16) : sProp 𝕄 := xM.view.loc (c : Thread nD τ) ↦[Finset.univ]{fullShare} f
abbrev wqPt (f : Vec F S1024x1024 .bf16) : sProp 𝕄 := wqM.view.loc (c : Thread nD τ) ↦[Finset.univ]{fullShare} f
abbrev woPt (f : Vec F S1024x1024 .bf16) : sProp 𝕄 := woM.view.loc (c : Thread nD τ) ↦[Finset.univ]{fullShare} f
abbrev wkPt (f : Vec F S1024x1024 .bf16) : sProp 𝕄 := wkM.view.loc (c : Thread nD τ) ↦[Finset.univ]{fullShare} f
abbrev wvPt (f : Vec F S1024x1024 .bf16) : sProp 𝕄 := wvM.view.loc (c : Thread nD τ) ↦[Finset.univ]{fullShare} f
abbrev outPt (f : OutBuf F) : sProp 𝕄 := oM.view.loc (c : Thread nD τ) ↦[Finset.univ]{fullShare} f
abbrev rcvPt (f : SBuf F) : sProp 𝕄 := sM.view.loc (c : Thread nD τ) ↦[Finset.univ]{fullShare} f

theorem load_x (f : Vec F S1x256x1024 .bf16) {inb : ∀ x, (![0, 0, 0] : Fin 3 → ℕ) x + S1x256x1024.size x ≤ S1x256x1024.size x}
    {hl : xM.view.LoadsAt (Rect.unit (s := S1x256x1024) ![0, 0, 0] S1x256x1024.size inb).toLoadRect}
    {α : Type} {Q : α → sProp 𝕄} {k : Vec F S1x256x1024 .bf16 → Prog (TpuEff nD τ sig (Elt F) Λ₀ .tc) α} :
    xPt c f ⊢ iprop((xPt c f -∗ wp frame (wpE (defs₀ (F := F)) 𝒱₀ (c : Thread nD τ) none) Set.univ (k f) Q)
      -∗ wp frame (wpE (defs₀ (F := F)) 𝒱₀ (c : Thread nD τ) none) Set.univ
          (.op (.load xM (Rect.unit (s := S1x256x1024) ![0, 0, 0] S1x256x1024.size inb).toLoadRect hl) k) Q) := by
  have h := wp_load (defs := defs₀ (F := F)) (Γ := .empty) 𝒱₀ (c : Thread nD τ) none Set.univ (m := xM) (hl := hl) (k := k) (Q := Q)
    (S := Finset.univ) (q := fullShare) (f := f) (Finset.subset_univ _)
  rwa [show xM.view.readAt (Elt F) (Rect.unit (s := S1x256x1024) ![0, 0, 0] S1x256x1024.size inb).toLoadRect f = f from
    Memref.readAt_unit_zero (Elt F) cc0_stg0_0 (by decide) inb f] at h

theorem load_wq (f : Vec F S1024x1024 .bf16) {inb : ∀ x, (![0, 0] : Fin 2 → ℕ) x + S1024x1024.size x ≤ S1024x1024.size x}
    {hl : wqM.view.LoadsAt (Rect.unit (s := S1024x1024) ![0, 0] S1024x1024.size inb).toLoadRect}
    {α : Type} {Q : α → sProp 𝕄} {k : Vec F S1024x1024 .bf16 → Prog (TpuEff nD τ sig (Elt F) Λ₀ .tc) α} :
    wqPt c f ⊢ iprop((wqPt c f -∗ wp frame (wpE (defs₀ (F := F)) 𝒱₀ (c : Thread nD τ) none) Set.univ (k f) Q)
      -∗ wp frame (wpE (defs₀ (F := F)) 𝒱₀ (c : Thread nD τ) none) Set.univ
          (.op (.load wqM (Rect.unit (s := S1024x1024) ![0, 0] S1024x1024.size inb).toLoadRect hl) k) Q) := by
  have h := wp_load (defs := defs₀ (F := F)) (Γ := .empty) 𝒱₀ (c : Thread nD τ) none Set.univ (m := wqM) (hl := hl) (k := k) (Q := Q)
    (S := Finset.univ) (q := fullShare) (f := f) (Finset.subset_univ _)
  rwa [show wqM.view.readAt (Elt F) (Rect.unit (s := S1024x1024) ![0, 0] S1024x1024.size inb).toLoadRect f = f from
    Memref.readAt_unit_zero (Elt F) cc0_stg1_0 (by decide) inb f] at h

theorem load_wk (f : Vec F S1024x1024 .bf16) {inb : ∀ x, (![0, 0] : Fin 2 → ℕ) x + S1024x1024.size x ≤ S1024x1024.size x}
    {hl : wkM.view.LoadsAt (Rect.unit (s := S1024x1024) ![0, 0] S1024x1024.size inb).toLoadRect}
    {α : Type} {Q : α → sProp 𝕄} {k : Vec F S1024x1024 .bf16 → Prog (TpuEff nD τ sig (Elt F) Λ₀ .tc) α} :
    wkPt c f ⊢ iprop((wkPt c f -∗ wp frame (wpE (defs₀ (F := F)) 𝒱₀ (c : Thread nD τ) none) Set.univ (k f) Q)
      -∗ wp frame (wpE (defs₀ (F := F)) 𝒱₀ (c : Thread nD τ) none) Set.univ
          (.op (.load wkM (Rect.unit (s := S1024x1024) ![0, 0] S1024x1024.size inb).toLoadRect hl) k) Q) := by
  have h := wp_load (defs := defs₀ (F := F)) (Γ := .empty) 𝒱₀ (c : Thread nD τ) none Set.univ (m := wkM) (hl := hl) (k := k) (Q := Q)
    (S := Finset.univ) (q := fullShare) (f := f) (Finset.subset_univ _)
  rwa [show wkM.view.readAt (Elt F) (Rect.unit (s := S1024x1024) ![0, 0] S1024x1024.size inb).toLoadRect f = f from
    Memref.readAt_unit_zero (Elt F) cc0_stg3_0 (by decide) inb f] at h

theorem load_wv (f : Vec F S1024x1024 .bf16) {inb : ∀ x, (![0, 0] : Fin 2 → ℕ) x + S1024x1024.size x ≤ S1024x1024.size x}
    {hl : wvM.view.LoadsAt (Rect.unit (s := S1024x1024) ![0, 0] S1024x1024.size inb).toLoadRect}
    {α : Type} {Q : α → sProp 𝕄} {k : Vec F S1024x1024 .bf16 → Prog (TpuEff nD τ sig (Elt F) Λ₀ .tc) α} :
    wvPt c f ⊢ iprop((wvPt c f -∗ wp frame (wpE (defs₀ (F := F)) 𝒱₀ (c : Thread nD τ) none) Set.univ (k f) Q)
      -∗ wp frame (wpE (defs₀ (F := F)) 𝒱₀ (c : Thread nD τ) none) Set.univ
          (.op (.load wvM (Rect.unit (s := S1024x1024) ![0, 0] S1024x1024.size inb).toLoadRect hl) k) Q) := by
  have h := wp_load (defs := defs₀ (F := F)) (Γ := .empty) 𝒱₀ (c : Thread nD τ) none Set.univ (m := wvM) (hl := hl) (k := k) (Q := Q)
    (S := Finset.univ) (q := fullShare) (f := f) (Finset.subset_univ _)
  rwa [show wvM.view.readAt (Elt F) (Rect.unit (s := S1024x1024) ![0, 0] S1024x1024.size inb).toLoadRect f = f from
    Memref.readAt_unit_zero (Elt F) cc0_stg4_0 (by decide) inb f] at h

theorem load_wo (f : Vec F S1024x1024 .bf16) (h : Fin 8) {off : Fin 2 → ℕ} (he : off = ![128 * h.val, 0])
    {inb : ∀ x, off x + S128x1024.size x ≤ S1024x1024.size x}
    {hl : woM.view.LoadsAt (Rect.unit (s := S1024x1024) off S128x1024.size inb).toLoadRect}
    {α : Type} {Q : α → sProp 𝕄} {k : Vec F S128x1024 .bf16 → Prog (TpuEff nD τ sig (Elt F) Λ₀ .tc) α} :
    woPt c f ⊢ iprop((woPt c f -∗ wp frame (wpE (defs₀ (F := F)) 𝒱₀ (c : Thread nD τ) none) Set.univ (k (woSl h f)) Q)
      -∗ wp frame (wpE (defs₀ (F := F)) 𝒱₀ (c : Thread nD τ) none) Set.univ
          (.op (.load woM (Rect.unit (s := S1024x1024) off S128x1024.size inb).toLoadRect hl) k) Q) := by
  subst he
  exact wp_load (defs := defs₀ (F := F)) (Γ := .empty) 𝒱₀ (c : Thread nD τ) none Set.univ (m := woM) (hl := hl) (k := k) (Q := Q)
    (S := Finset.univ) (q := fullShare) (f := f) (Finset.subset_univ _)

theorem load_slot (f : SBuf F) (i : Fin 15) {off : Fin 3 → ℕ} (he : off = ![i.val, 0, 0])
    {inb : ∀ x, off x + S1x16x1024.size x ≤ S15x16x1024.size x}
    {hl : sM.view.LoadsAt (Rect.unit (s := S15x16x1024) off S1x16x1024.size inb).toLoadRect}
    {α : Type} {Q : α → sProp 𝕄} {k : Vec F S1x16x1024 .bf16 → Prog (TpuEff nD τ sig (Elt F) Λ₀ .tc) α} :
    rcvPt c f ⊢ iprop((rcvPt c f -∗ wp frame (wpE (defs₀ (F := F)) 𝒱₀ (c : Thread nD τ) none) Set.univ (k (slotRd i f)) Q)
      -∗ wp frame (wpE (defs₀ (F := F)) 𝒱₀ (c : Thread nD τ) none) Set.univ
          (.op (.load sM (Rect.unit (s := S15x16x1024) off S1x16x1024.size inb).toLoadRect hl) k) Q) := by
  subst he
  exact wp_load (defs := defs₀ (F := F)) (Γ := .empty) 𝒱₀ (c : Thread nD τ) none Set.univ (m := sM) (hl := hl) (k := k) (Q := Q)
    (S := Finset.univ) (q := fullShare) (f := f) (Finset.subset_univ _)

theorem row_access_set (a : Dev nD) : (oM.access (rowR a)).setOn Finset.univ ⊆ rowS a := by
  intro x hx
  obtain ⟨y, -, rfl⟩ := Finset.mem_map.mp hx
  rw [eq_ix3 (y : S1x16x1024.Idx)]
  refine mem_rowS.2 ⟨y 1, y 2, ix3_ext ?_ ?_ ?_⟩
  · have : (y 0).val < 1 := (y 0).isLt
    show 0 + 1 * (y 0).val = 0; omega
  · show 16 * a.val + 1 * (y 1).val = 16 * a.val + (y 1).val; omega
  · show 0 + 1 * (y 2).val = (y 2).val; omega

theorem row_load_set (a : Dev nD) : oM.view.setOn (rowR a).toLoadRect.set ⊆ rowS a := by
  intro x hx
  obtain ⟨y, hy, rfl⟩ := Finset.mem_map.mp hx
  obtain ⟨z, rfl⟩ := LoadRect.exists_idx_of_mem _ hy
  refine row_access_set a (Finset.mem_map.mpr ⟨z, Finset.mem_univ _, rfl⟩)

theorem load_row (a : Dev nD) (q : PosShare TreeShare) (f : OutBuf F) {off : Fin 3 → ℕ} (he : off = ![0, 16 * a.val, 0])
    {inb : ∀ x, off x + S1x16x1024.size x ≤ S1x256x1024.size x}
    {hl : oM.view.LoadsAt (Rect.unit (s := S1x256x1024) off S1x16x1024.size inb).toLoadRect}
    {α : Type} {Q : α → sProp 𝕄} {k : Vec F S1x16x1024 .bf16 → Prog (TpuEff nD τ sig (Elt F) Λ₀ .tc) α} :
    outAt c a q f ⊢ iprop((outAt c a q f -∗ wp frame (wpE (defs₀ (F := F)) 𝒱₀ (c : Thread nD τ) none) Set.univ (k (rowRd a f)) Q)
      -∗ wp frame (wpE (defs₀ (F := F)) 𝒱₀ (c : Thread nD τ) none) Set.univ
          (.op (.load oM (Rect.unit (s := S1x256x1024) off S1x16x1024.size inb).toLoadRect hl) k) Q) := by
  subst he
  exact wp_load (defs := defs₀ (F := F)) (Γ := .empty) 𝒱₀ (c : Thread nD τ) none Set.univ (m := oM) (hl := hl) (k := k) (Q := Q)
    (S := rowS a) (q := q) (f := f) (row_load_set a)

/-- Storing the sum of block `a` into its rows leaves the final contents there. -/
theorem store_row (part : Dev nD → OutBuf F) (a : Dev nD) (f : OutBuf F) {off : Fin 3 → ℕ} (he : off = ![0, 16 * a.val, 0])
    {inb : ∀ x, off x + S1x16x1024.size x ≤ S1x256x1024.size x}
    {hx : (oM.access (Rect.unit (s := S1x256x1024) off S1x16x1024.size inb)).Stores Finset.univ}
    {hm : (Finset.univ : Finset S1x16x1024.Idx) = Finset.univ ∨ ∀ x, (Rect.unit (s := S1x256x1024) off S1x16x1024.size inb).stride x = 1}
    {α : Type} {Q : α → sProp 𝕄} {k : PUnit → Prog (TpuEff nD τ sig (Elt F) Λ₀ .tc) α} :
    outAt c a fullShare f
      ⊢ iprop((outAt c a fullShare (finOf part) -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S1x256x1024) off S1x16x1024.size inb) (blkOf part a) Finset.univ hx hm) k) Q) := by
  subst he
  have h := wp_store (defs := defs₀ (F := F)) (Γ := .empty) 𝒱₀ (c : Thread nD τ) none Set.univ (m := oM) (r := rowR a) (w := blkOf part a)
    (Mk := Finset.univ) (hx := hx) (hm := hm) (k := k) (Q := Q) (S := rowS a) (f := f) (row_access_set a)
  have e : (outAt c a fullShare ((oM.access (rowR a)).write (Elt F) f (blkOf part a) Finset.univ) : sProp 𝕄)
      = outAt c a fullShare (finOf part) := outAt_congr c a fullShare fun r k => by
    have e1 : oIx a r k = (oM.access (rowR a)).emb (ix3 (n0 := 1) (n1 := 16) (n2 := 1024) 0 r k) := ix3_ext
      (by show 0 = 0 + 1 * 0; rfl) (by show 16 * a.val + r.val = 16 * a.val + 1 * r.val; omega) (by show k.val = 0 + 1 * k.val; omega)
    rw [finOf_row, e1]
    rw [View.write_emb_of_mem _ _ (Finset.mem_univ _)]; rfl
  rw [← e]
  exact h

theorem load_out (f : OutBuf F) {inb : ∀ x, (![0, 0, 0] : Fin 3 → ℕ) x + S1x256x1024.size x ≤ S1x256x1024.size x}
    {hl : oM.view.LoadsAt (Rect.unit (s := S1x256x1024) ![0, 0, 0] S1x256x1024.size inb).toLoadRect}
    {α : Type} {Q : α → sProp 𝕄} {k : Vec F S1x256x1024 .bf16 → Prog (TpuEff nD τ sig (Elt F) Λ₀ .tc) α} :
    outPt c f ⊢ iprop((outPt c f -∗ ∀ v, wp frame (wpE (defs₀ (F := F)) 𝒱₀ (c : Thread nD τ) none) Set.univ (k v) Q)
      -∗ wp frame (wpE (defs₀ (F := F)) 𝒱₀ (c : Thread nD τ) none) Set.univ
          (.op (.load oM (Rect.unit (s := S1x256x1024) ![0, 0, 0] S1x256x1024.size inb).toLoadRect hl) k) Q) := by
  iintro H Hk
  iapply (wp_load (defs := defs₀ (F := F)) (Γ := .empty) 𝒱₀ (c : Thread nD τ) none Set.univ (m := oM) (hl := hl) (k := k) (Q := Q)
    (S := Finset.univ) (q := fullShare) (f := f) (Finset.subset_univ _)) $$ H
  iintro H
  ihave Hw := Hk $$ H
  iapply Hw

theorem store_out (f w : OutBuf F) {inb : ∀ x, (![0, 0, 0] : Fin 3 → ℕ) x + S1x256x1024.size x ≤ S1x256x1024.size x}
    {hx : (oM.access (Rect.unit (s := S1x256x1024) ![0, 0, 0] S1x256x1024.size inb)).Stores Finset.univ}
    {hm : (Finset.univ : Finset S1x256x1024.Idx) = Finset.univ
      ∨ ∀ x, (Rect.unit (s := S1x256x1024) ![0, 0, 0] S1x256x1024.size inb).stride x = 1}
    {α : Type} {Q : α → sProp 𝕄} {k : PUnit → Prog (TpuEff nD τ sig (Elt F) Λ₀ .tc) α} :
    outPt c f
      ⊢ iprop((outPt c w -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S1x256x1024) ![0, 0, 0] S1x256x1024.size inb) w Finset.univ hx hm) k) Q) := by
  have h := wp_store (defs := defs₀ (F := F)) (Γ := .empty) 𝒱₀ (c : Thread nD τ) none Set.univ (m := oM)
    (r := Rect.unit (s := S1x256x1024) ![0, 0, 0] S1x256x1024.size inb) (w := w)
    (Mk := Finset.univ) (hx := hx) (hm := hm) (k := k) (Q := Q) (S := Finset.univ) (f := f) (Finset.subset_univ _)
  rwa [show (oM.access (Rect.unit (s := S1x256x1024) ![0, 0, 0] S1x256x1024.size inb)).write (Elt F) f w Finset.univ = w from
    Memref.write_access_unit_zero_univ (Elt F) cc0_stg5_0 (by decide) inb f w] at h

end

end Cert.Mesh

end
-- ==== Proof.Run.lean ====
/-
# Running a part of the body

The parts of the body on the staged buffers, the rows and devices they name, and how one phase of transfers hands over to
the next.
-/
module

public import proofs.«01_k».proof.Proof.Contents

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body on the staged buffers. -/
abbrev run {β : Type 1} (f : (arg0 : Memref sig .tc .vmem S1x256x1024 .bf16) → arg0.IsWhole → (arg1 : Memref sig .tc .vmem S1024x1024 .bf16) → arg1.IsWhole
    → (arg2 : Memref sig .tc .vmem S1024x1024 .bf16) → arg2.IsWhole → (arg3 : Memref sig .tc .vmem S1024x1024 .bf16) → arg3.IsWhole
    → (arg4 : Memref sig .tc .vmem S1024x1024 .bf16) → arg4.IsWhole → (arg5 : Memref sig .tc .vmem S1x256x1024 .bf16) → arg5.IsWhole
    → (arg6 : Memref sig .tc .vmem S15x16x1024 .bf16) → arg6.IsWhole → DmaSems sig S15 → DmaSems sig S15 → DmaSems sig S15 → DmaSems sig S15 → β) : β :=
  f xM (Memref.isWhole_whole _) wqM (Memref.isWhole_whole _) woM (Memref.isWhole_whole _) wkM (Memref.isWhole_whole _)
    wvM (Memref.isWhole_whole _) oM (Memref.isWhole_whole _) sM (Memref.isWhole_whole _) cc0_scratch1 cc0_scratch2 cc0_scratch3 cc0_scratch4

/-! ## The rows and devices the body names -/

theorem row_of_off (a : Dev nD) (off : Fin 3 → ℕ) (inb : ∀ x, off x + S1x16x1024.size x ≤ S1x256x1024.size x) (h : off = ![0, 16 * a.val, 0]) :
    (oM.slice (Rect.unit (s := S1x256x1024) off S1x16x1024.size inb) (fun _ => rfl)).squeeze S16x1024 squeezes_S1x16x1024_S16x1024
      = rowV a := by
  subst h; rfl

theorem row1_eq (c : Dev nD) (i : Fin 15) :
    (oM.slice (Rect.unit (s := S1x256x1024) (k0_off1 c (BitVec.ofNat 32 (1 + i.val))) S1x16x1024.size (k0_off1_inb c i)) (fun _ => rfl)).squeeze
      S16x1024 squeezes_S1x16x1024_S16x1024 = rowV (up c i) := by
  refine row_of_off _ _ _ ?_
  rw [k0_off1_eq]; rfl

theorem row3_eq (c : Dev nD) :
    (oM.slice (Rect.unit (s := S1x256x1024) (k0_off3 c) S1x16x1024.size (k0_off3_inb c)) (fun _ => rfl)).squeeze
      S16x1024 squeezes_S1x16x1024_S16x1024 = rowV c :=
  row_of_off _ _ _ (k0_off3_eq c)

theorem dev_eq (c : Dev nD) (i : Fin 15) (j : ℕ) (hj : j = i.val + 1) (n : Dev nD) (h : n.val = (c.val + j) % 16) : n = up c i := by
  subst hj; exact Fin.ext h

/-- A transfer of sixteen rows has the same credit whichever rows they are. -/
theorem credit_any (m : Memref sig .tc .vmem S16x1024 .bf16) : m.view.dmaCredit = N := rfl

/-! ## From one phase to the next -/

section
variable (part : Dev nD → OutBuf F) (fin : OutBuf F) (c : Dev nD)

/-- Waits in the order of the offsets. -/
abbrev σI : Fin 15 → Fin 15 := fun i => i

/-- What the fifteen waits of kind `a` start with and end with, and the credits of the copies of kind `a`. -/
def pre (a : Fin 4) (σ : Fin 15 → Fin 15) (c : Dev nD) : sProp 𝕄 :=
  bigSep Finset.univ fun i => iprop(cred (tallyAt (dCell c a (σ i)) () N) ∗ atPos ER (dCell c a (σ i)) 0 ∅ 0)
def got (a : Fin 4) (σ : Fin 15 → Fin 15) (c : Dev nD) : sProp 𝕄 :=
  bigSep Finset.univ fun i => iprop(atPos ER (dCell c a (σ i)) 1 ∅ 0 ∗ xferPay part fin c a (σ i))
def crs (a : Fin 4) (c : Dev nD) : sProp 𝕄 := bigSep Finset.univ fun i => cred (tallyAt (dCell c a i) () N)

/-- What the barrier leaves. -/
def barDone (c : Dev nD) : sProp 𝕄 :=
  iprop(owing c (owe c 15 0 0) ∗ atPos ER (barCell c) 1 ∅ 0 ∗ bigSep Finset.univ fun i : Fin 15 => iprop(∃ f, slotAt (F := F) (up c i) i.rev f))

theorem wait_start (a : Fin 4) (σ : Fin 15 → Fin 15) (O : CellTallies nD τ sig Unit) :
    iprop(owing c O ∗ pre a σ c) ⊢ waitSt part fin a σ O c 0 := by
  unfold waitSt pre
  rw [rem_zero, done_zero, bigSep_empty]
  iintro ⟨HO, H⟩
  isplitl [HO]; · iexact HO
  isplitl [H]; · iexact H
  exact BI.Entails.refl _

theorem wait_end (a : Fin 4) (σ : Fin 15 → Fin 15) (O : CellTallies nD τ sig Unit) :
    waitSt part fin a σ O c 15 ⊢ iprop(owing c O ∗ got part fin a σ c) := by
  unfold waitSt got
  rw [rem_last, done_last, bigSep_empty]
  iintro ⟨HO, -, H⟩
  isplitl [HO] <;> iassumption

theorem wait_next (a b : Fin 4) (σ σ' : Fin 15 → Fin 15) (O : CellTallies nD τ sig Unit) :
    iprop(waitSt part fin a σ O c 15 ∗ pre b σ' c) ⊢ iprop(waitSt part fin b σ' O c 0 ∗ got part fin a σ c) := by
  iintro ⟨H, Hp⟩
  ihave H' := (wait_end part fin c a σ O) $$ H
  icases H' with ⟨HO, Hg⟩
  isplitl [HO Hp]
  · iapply (wait_start part fin c b σ' O)
    isplitl [HO] <;> iassumption
  iexact Hg

theorem rs_done : iprop(rsSt part c 15 ∗ pre 1 Fin.rev c) ⊢ iprop(waitSt part fin 1 Fin.rev (owe c 15 15 0) c 0 ∗ crs 0 c) := by
  unfold rsSt crs
  rw [rem_last, done_last, bigSep_empty]
  iintro ⟨⟨HO, -, H⟩, Hp⟩
  isplitl [HO Hp]
  · iapply (wait_start part fin c 1 Fin.rev (owe c 15 15 0))
    isplitl [HO] <;> iassumption
  iexact H

theorem ag_done : iprop(agSt fin c 15 ∗ pre 3 σI c)
    ⊢ iprop(waitSt part fin 3 σI (owe c 15 15 15) c 0 ∗ crs 2 c ∗ outAt c c (restQ 15) fin) := by
  unfold agSt crs
  rw [rem_last, done_last, bigSep_empty]
  iintro ⟨⟨HO, Hout, -, H⟩, Hp⟩
  isplitl [HO Hp]
  · iapply (wait_start part fin c 3 σI (owe c 15 15 15))
    isplitl [HO] <;> iassumption
  isplitl [H] <;> iassumption

end

end Cert.Mesh

end
-- ==== Proof.PartsA.lean ====
/-
# The body: barrier, projections, heads

Parts one to seven: the barrier's signals and wait, the loads of the inputs, and the eight heads up to the store of the
device's part of the projection.
-/
module

public import proofs.«01_k».proof.Proof.Run

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → OutBuf F) (fin : OutBuf F) (K : Dev nD × Option (Fin 4 × Fin 15) → ℕ) (c : Dev nD)

set_option maxRecDepth 8000

theorem part1_spec {Q : (Σ' (d0 : Dev nD) (v2 : BitVec 32) (v3 : Sems sig S_) (v24 : BitVec 32), BitVec 32) → sProp 𝕄} :
    iprop(ctx part fin K ∗ sigSt c 0) ⊢ iprop((∀ v2, ∀ v24, ∀ e, (sigSt c 5) -∗ Q ⟨c, v2, SemArray.scalar (sig.barrier 0 rfl), v24, e⟩)
      -∗ wp frame (wpE (defs₀ (F := F)) 𝒱₀ (c : Thread nD τ) none) Set.univ (run (k0_part1 (F := F)) ) Q) := by
  unfold run
  rw [k0_part1_eq_skeleton]
  unfold k0_part1_skel
  simp only [semSignalWord, semWaitWord, Prog.lift, Prog.bind_op, Prog.bind_ret, Prog.pure_eq_ret, wp_deviceId]
  iintro ⟨#HC, H⟩ Hk
  iapply (signal_step part fin K c ⟨k0_dev1 c, k0_dev1_lt c⟩ 0 0 rfl (dev_eq c 0 1 rfl _ (k0_dev1_eq c)) _ rfl) $$ [H]
  · isplitr; · iexact HC
    iexact H
  iintro H
  iapply (signal_step part fin K c ⟨k0_dev2 c, k0_dev2_lt c⟩ 1 1 rfl (dev_eq c 1 2 rfl _ (k0_dev2_eq c)) _ rfl) $$ [H]
  · isplitr; · iexact HC
    iexact H
  iintro H
  iapply (signal_step part fin K c ⟨k0_dev3 c, k0_dev3_lt c⟩ 2 2 rfl (dev_eq c 2 3 rfl _ (k0_dev3_eq c)) _ rfl) $$ [H]
  · isplitr; · iexact HC
    iexact H
  iintro H
  iapply (signal_step part fin K c ⟨k0_dev4 c, k0_dev4_lt c⟩ 3 3 rfl (dev_eq c 3 4 rfl _ (k0_dev4_eq c)) _ rfl) $$ [H]
  · isplitr; · iexact HC
    iexact H
  iintro H
  iapply (signal_step part fin K c ⟨k0_dev5 c, k0_dev5_lt c⟩ 4 4 rfl (dev_eq c 4 5 rfl _ (k0_dev5_eq c)) _ rfl) $$ [H]
  · isplitr; · iexact HC
    iexact H
  iintro H
  simp only [wp_ret]
  imodintro
  iapply Hk
  iexact H

theorem part2_spec (v2 : BitVec 32) (v24 : BitVec 32) (c16_i32_20 : BitVec 32) {Q : (Σ' (v48 : BitVec 32), BitVec 32) → sProp 𝕄} :
    iprop(ctx part fin K ∗ sigSt c 5) ⊢ iprop((∀ e0, ∀ e1, (sigSt c 11) -∗ Q ⟨e0, e1⟩)
      -∗ wp frame (wpE (defs₀ (F := F)) 𝒱₀ (c : Thread nD τ) none) Set.univ (run (k0_part2 (F := F)) c v2 (SemArray.scalar (sig.barrier 0 rfl)) v24 c16_i32_20) Q) := by
  unfold run
  rw [k0_part2_eq_skeleton]
  unfold k0_part2_skel
  simp only [semSignalWord, semWaitWord, Prog.lift, Prog.bind_op, Prog.bind_ret, Prog.pure_eq_ret, wp_deviceId]
  iintro ⟨#HC, H⟩ Hk
  iapply (signal_step part fin K c ⟨k0_dev6 c, k0_dev6_lt c⟩ 5 5 rfl (dev_eq c 5 6 rfl _ (k0_dev6_eq c)) _ rfl) $$ [H]
  · isplitr; · iexact HC
    iexact H
  iintro H
  iapply (signal_step part fin K c ⟨k0_dev7 c, k0_dev7_lt c⟩ 6 6 rfl (dev_eq c 6 7 rfl _ (k0_dev7_eq c)) _ rfl) $$ [H]
  · isplitr; · iexact HC
    iexact H
  iintro H
  iapply (signal_step part fin K c ⟨k0_dev8 c, k0_dev8_lt c⟩ 7 7 rfl (dev_eq c 7 8 rfl _ (k0_dev8_eq c)) _ rfl) $$ [H]
  · isplitr; · iexact HC
    iexact H
  iintro H
  iapply (signal_step part fin K c ⟨k0_dev9 c, k0_dev9_lt c⟩ 8 8 rfl (dev_eq c 8 9 rfl _ (k0_dev9_eq c)) _ rfl) $$ [H]
  · isplitr; · iexact HC
    iexact H
  iintro H
  iapply (signal_step part fin K c ⟨k0_dev10 c, k0_dev10_lt c⟩ 9 9 rfl (dev_eq c 9 10 rfl _ (k0_dev10_eq c)) _ rfl) $$ [H]
  · isplitr; · iexact HC
    iexact H
  iintro H
  iapply (signal_step part fin K c ⟨k0_dev11 c, k0_dev11_lt c⟩ 10 10 rfl (dev_eq c 10 11 rfl _ (k0_dev11_eq c)) _ rfl) $$ [H]
  · isplitr; · iexact HC
    iexact H
  iintro H
  simp only [wp_ret]
  imodintro
  iapply Hk
  iexact H

theorem part3_spec (v2 : BitVec 32) (v48 : BitVec 32) (c16_i32_44 : BitVec 32) (x : Vec F S1x256x1024 .bf16) (wq wk wv : Vec F S1024x1024 .bf16) {Q : (Σ' (v65 : FVec F S256x1024 .bf16) (v68 : FVec F S256x1024 .f32) (v71 : FVec F S256x1024 .f32), Vec F S1024x1024 .bf16) → sProp 𝕄} :
    iprop(ctx part fin K ∗ cred (tallyAt (barCell c) () 15) ∗ atPos ER (barCell c) 0 ∅ 0 ∗ sigSt c 11 ∗ xPt c x ∗ wqPt c wq ∗ wkPt c wk ∗ wvPt c wv)
      ⊢ iprop((barDone c ∗ xPt c x ∗ wqPt c wq ∗ wkPt c wk ∗ wvPt c wv -∗ Q ⟨k0_pay1 x, k0_pay2 x wq, k0_pay3 x wk, wv⟩)
      -∗ wp frame (wpE (defs₀ (F := F)) 𝒱₀ (c : Thread nD τ) none) Set.univ (run (k0_part3 (F := F)) c v2 (SemArray.scalar (sig.barrier 0 rfl)) v48 c16_i32_44) Q) := by
  unfold run
  rw [k0_part3_eq_skeleton]
  unfold k0_part3_skel
  simp only [semSignalWord, semWaitWord, Prog.lift, Prog.bind_op, Prog.bind_ret, Prog.pure_eq_ret, wp_deviceId]
  iintro ⟨#HC, Hcr, Hat, H, Hx, Hq, Hkk, Hv⟩ Hk
  iapply (signal_step part fin K c ⟨k0_dev12 c, k0_dev12_lt c⟩ 11 11 rfl (dev_eq c 11 12 rfl _ (k0_dev12_eq c)) _ rfl) $$ [H]
  · isplitr; · iexact HC
    iexact H
  iintro H
  iapply (signal_step part fin K c ⟨k0_dev13 c, k0_dev13_lt c⟩ 12 12 rfl (dev_eq c 12 13 rfl _ (k0_dev13_eq c)) _ rfl) $$ [H]
  · isplitr; · iexact HC
    iexact H
  iintro H
  iapply (signal_step part fin K c ⟨k0_dev14 c, k0_dev14_lt c⟩ 13 13 rfl (dev_eq c 13 14 rfl _ (k0_dev14_eq c)) _ rfl) $$ [H]
  · isplitr; · iexact HC
    iexact H
  iintro H
  iapply (signal_step part fin K c ⟨k0_dev15 c, k0_dev15_lt c⟩ 14 14 rfl (dev_eq c 14 15 rfl _ (k0_dev15_eq c)) _ rfl) $$ [H]
  · isplitr; · iexact HC
    iexact H
  iintro H
  iapply (barrier_step part fin K c _ rfl) $$ [H Hcr Hat]
  · isplitr; · iexact HC
    isplitl [Hcr]; · iexact Hcr
    isplitl [Hat] <;> iassumption
  iintro H
  iapply (load_x c x) $$ Hx
  iintro Hx
  iapply (load_wq c wq) $$ Hq
  iintro Hq
  iapply (load_wk c wk) $$ Hkk
  iintro Hkk
  iapply (load_wv c wv) $$ Hv
  iintro Hv
  simp only [wp_ret]
  imodintro
  iapply Hk
  isplitl [H]; · unfold barDone; iexact H
  isplitl [Hx]; · iexact Hx
  isplitl [Hq]; · iexact Hq
  isplitl [Hkk] <;> iassumption

theorem part4_spec (v65 : FVec F S256x1024 .bf16) (v68 : FVec F S256x1024 .f32) (v71 : FVec F S256x1024 .f32) (v72 : Vec F S1024x1024 .bf16) (wo : Vec F S1024x1024 .bf16) {Q : (Σ' (v74 : FVec F S256x1024 .f32) (v96 : FVec F S256x1024 .f32), FVec F S256x1024 .f32) → sProp 𝕄} :
    woPt c wo ⊢ iprop((woPt c wo -∗ Q ⟨k0_pay4 v65 v72, k0_pay5 v65 v68 v71 v72 (woSl 0 wo), k0_pay6 v65 v68 v71 v72 (woSl 1 wo)⟩)
      -∗ wp frame (wpE (defs₀ (F := F)) 𝒱₀ (c : Thread nD τ) none) Set.univ (run (k0_part4 (F := F)) v65 v68 v71 v72) Q) := by
  unfold run
  rw [k0_part4_eq_skeleton]
  unfold k0_part4_skel
  simp only [semSignalWord, semWaitWord, Prog.lift, Prog.bind_op, Prog.bind_ret, Prog.pure_eq_ret, wp_deviceId]
  iintro Ho Hk
  iapply (load_wo c wo 0 (by decide)) $$ Ho
  iintro Ho
  iapply (load_wo c wo 1 (by decide)) $$ Ho
  iintro Ho
  simp only [wp_ret]
  imodintro
  iapply Hk
  iexact Ho

theorem part5_spec (v68 : FVec F S256x1024 .f32) (v71 : FVec F S256x1024 .f32) (v74 : FVec F S256x1024 .f32) (v96 : FVec F S256x1024 .f32) (v116 : FVec F S256x1024 .f32) (wo : Vec F S1024x1024 .bf16) {Q : (Σ' (v159 : FVec F S256x1024 .f32) (v160 : FVec F S256x128 .f32), FVec F S256x128 .f32) → sProp 𝕄} :
    woPt c wo ⊢ iprop((woPt c wo -∗ Q ⟨k0_pay7 v68 v71 v74 v96 v116 (woSl 2 wo) (woSl 3 wo), k0_pay8 v68, k0_pay9 (F := F)⟩)
      -∗ wp frame (wpE (defs₀ (F := F)) 𝒱₀ (c : Thread nD τ) none) Set.univ (run (k0_part5 (F := F)) v68 v71 v74 v96 v116) Q) := by
  unfold run
  rw [k0_part5_eq_skeleton]
  unfold k0_part5_skel
  simp only [semSignalWord, semWaitWord, Prog.lift, Prog.bind_op, Prog.bind_ret, Prog.pure_eq_ret, wp_deviceId]
  iintro Ho Hk
  iapply (load_wo c wo 2 (by decide)) $$ Ho
  iintro Ho
  iapply (load_wo c wo 3 (by decide)) $$ Ho
  iintro Ho
  simp only [wp_ret]
  imodintro
  iapply Hk
  iexact Ho

theorem part6_spec (v68 : FVec F S256x1024 .f32) (v71 : FVec F S256x1024 .f32) (v74 : FVec F S256x1024 .f32) (v159 : FVec F S256x1024 .f32) (v160 : FVec F S256x128 .f32) (v161 : FVec F S256x128 .f32) (wo : Vec F S1024x1024 .bf16) {Q : (Σ' (v201 : FVec F S256x1024 .f32) (v205 : FVec F S256x128 .bf16), FVec F S256x128 .bf16) → sProp 𝕄} :
    woPt c wo ⊢ iprop((woPt c wo -∗ Q ⟨k0_pay10 v68 v71 v74 v159 v160 v161 (woSl 4 wo) (woSl 5 wo), k0_pay11 v68, k0_pay12 v71⟩)
      -∗ wp frame (wpE (defs₀ (F := F)) 𝒱₀ (c : Thread nD τ) none) Set.univ (run (k0_part6 (F := F)) v68 v71 v74 v159 v160 v161) Q) := by
  unfold run
  rw [k0_part6_eq_skeleton]
  unfold k0_part6_skel
  simp only [semSignalWord, semWaitWord, Prog.lift, Prog.bind_op, Prog.bind_ret, Prog.pure_eq_ret, wp_deviceId]
  iintro Ho Hk
  iapply (load_wo c wo 4 (by decide)) $$ Ho
  iintro Ho
  iapply (load_wo c wo 5 (by decide)) $$ Ho
  iintro Ho
  simp only [wp_ret]
  imodintro
  iapply Hk
  iexact Ho

theorem part7_spec (v2 : BitVec 32) (v68 : FVec F S256x1024 .f32) (v71 : FVec F S256x1024 .f32) (v74 : FVec F S256x1024 .f32) (v201 : FVec F S256x1024 .f32) (v205 : FVec F S256x128 .bf16) (v207 : FVec F S256x128 .bf16) (wo : Vec F S1024x1024 .bf16) (f : OutBuf F) {Q : (Σ' (v248 : BitVec 32), BitVec 32) → sProp 𝕄} :
    iprop(woPt c wo ∗ outPt c f)
      ⊢ iprop((∀ e0, ∀ e1, (woPt c wo ∗ outPt c (k0_pay13 v68 v71 v74 v201 v205 v207 (woSl 6 wo) (woSl 7 wo))) -∗ Q ⟨e0, e1⟩)
      -∗ wp frame (wpE (defs₀ (F := F)) 𝒱₀ (c : Thread nD τ) none) Set.univ (run (k0_part7 (F := F)) v2 v68 v71 v74 v201 v205 v207) Q) := by
  unfold run
  rw [k0_part7_eq_skeleton]
  unfold k0_part7_skel
  simp only [semSignalWord, semWaitWord, Prog.lift, Prog.bind_op, Prog.bind_ret, Prog.pure_eq_ret, wp_deviceId]
  iintro ⟨Ho, Hout⟩ Hk
  iapply (load_wo c wo 6 (by decide)) $$ Ho
  iintro Ho
  iapply (load_wo c wo 7 (by decide)) $$ Ho
  iintro Ho
  iapply (load_out c f) $$ Hout
  iintro Hout %v
  iapply (store_out c f) $$ Hout
  iintro Hout
  simp only [wp_ret]
  imodintro
  iapply Hk
  isplitl [Ho] <;> iassumption

end Cert.Mesh

end
-- ==== Proof.PartsB.lean ====
/-
# The body: the reduce-scatter

Parts eight to eighteen: the fifteen copies of rows to the devices that add them up, and the waits for the fifteen that arrive.
-/
module

public import proofs.«01_k».proof.Proof.Run

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → OutBuf F) (fin : OutBuf F) (K : Dev nD × Option (Fin 4 × Fin 15) → ℕ) (c : Dev nD)

set_option maxRecDepth 8000

theorem part8_spec (v2 : BitVec 32) (v248 : BitVec 32) (c16_i32_125 : BitVec 32) {Q : (Σ' (v249 : BitVec 32) (v262 : BitVec 32) (v275 : BitVec 32), BitVec 32) → sProp 𝕄} :
    iprop(ctx part fin K ∗ rsSt part c 0) ⊢ iprop((∀ e0, ∀ e1, ∀ e2, ∀ e3, (rsSt part c 2) -∗ Q ⟨e0, e1, e2, e3⟩)
      -∗ wp frame (wpE (defs₀ (F := F)) 𝒱₀ (c : Thread nD τ) none) Set.univ (run (k0_part8 (F := F)) c v2 v248 c16_i32_125) Q) := by
  unfold run
  rw [k0_part8_eq_skeleton]
  unfold k0_part8_skel
  simp only [semSignalWord, semWaitWord, Prog.lift, Prog.bind_op, Prog.bind_ret, Prog.pure_eq_ret, wp_deviceId]
  iintro ⟨#HC, H⟩ Hk
  iapply (rs_step part fin K c ⟨k0_dev16 c, k0_dev16_lt c⟩ 0 0 rfl (dev_eq c 0 1 rfl _ (k0_dev16_eq c)) (row1_eq c 0) rfl rfl rfl) $$ [H]
  · isplitr; · iexact HC
    iexact H
  iintro H
  iapply (rs_step part fin K c ⟨k0_dev17 c, k0_dev17_lt c⟩ 1 1 rfl (dev_eq c 1 2 rfl _ (k0_dev17_eq c)) (row1_eq c 1) rfl rfl rfl) $$ [H]
  · isplitr; · iexact HC
    iexact H
  iintro H
  simp only [wp_ret]
  imodintro
  iapply Hk
  iexact H

theorem part9_spec (v2 : BitVec 32) (v275 : BitVec 32) (c1_i32_155 : BitVec 32) {Q : (Σ' (v288 : BitVec 32), BitVec 32) → sProp 𝕄} :
    iprop(ctx part fin K ∗ rsSt part c 2) ⊢ iprop((∀ e0, ∀ e1, (rsSt part c 4) -∗ Q ⟨e0, e1⟩)
      -∗ wp frame (wpE (defs₀ (F := F)) 𝒱₀ (c : Thread nD τ) none) Set.univ (run (k0_part9 (F := F)) c v2 v275 c1_i32_155) Q) := by
  unfold run
  rw [k0_part9_eq_skeleton]
  unfold k0_part9_skel
  simp only [semSignalWord, semWaitWord, Prog.lift, Prog.bind_op, Prog.bind_ret, Prog.pure_eq_ret, wp_deviceId]
  iintro ⟨#HC, H⟩ Hk
  iapply (rs_step part fin K c ⟨k0_dev18 c, k0_dev18_lt c⟩ 2 2 rfl (dev_eq c 2 3 rfl _ (k0_dev18_eq c)) (row1_eq c 2) rfl rfl rfl) $$ [H]
  · isplitr; · iexact HC
    iexact H
  iintro H
  iapply (rs_step part fin K c ⟨k0_dev19 c, k0_dev19_lt c⟩ 3 3 rfl (dev_eq c 3 4 rfl _ (k0_dev19_eq c)) (row1_eq c 3) rfl rfl rfl) $$ [H]
  · isplitr; · iexact HC
    iexact H
  iintro H
  simp only [wp_ret]
  imodintro
  iapply Hk
  iexact H

theorem part10_spec (v2 : BitVec 32) {Q : (Σ' (v314 : BitVec 32) (v327 : BitVec 32), BitVec 32) → sProp 𝕄} :
    iprop(ctx part fin K ∗ rsSt part c 4) ⊢ iprop((∀ e0, ∀ e1, ∀ e2, (rsSt part c 7) -∗ Q ⟨e0, e1, e2⟩)
      -∗ wp frame (wpE (defs₀ (F := F)) 𝒱₀ (c : Thread nD τ) none) Set.univ (run (k0_part10 (F := F)) c v2) Q) := by
  unfold run
  rw [k0_part10_eq_skeleton]
  unfold k0_part10_skel
  simp only [semSignalWord, semWaitWord, Prog.lift, Prog.bind_op, Prog.bind_ret, Prog.pure_eq_ret, wp_deviceId]
  iintro ⟨#HC, H⟩ Hk
  iapply (rs_step part fin K c ⟨k0_dev20 c, k0_dev20_lt c⟩ 4 4 rfl (dev_eq c 4 5 rfl _ (k0_dev20_eq c)) (row1_eq c 4) rfl rfl rfl) $$ [H]
  · isplitr; · iexact HC
    iexact H
  iintro H
  iapply (rs_step part fin K c ⟨k0_dev21 c, k0_dev21_lt c⟩ 5 5 rfl (dev_eq c 5 6 rfl _ (k0_dev21_eq c)) (row1_eq c 5) rfl rfl rfl) $$ [H]
  · isplitr; · iexact HC
    iexact H
  iintro H
  iapply (rs_step part fin K c ⟨k0_dev22 c, k0_dev22_lt c⟩ 6 6 rfl (dev_eq c 6 7 rfl _ (k0_dev22_eq c)) (row1_eq c 6) rfl rfl rfl) $$ [H]
  · isplitr; · iexact HC
    iexact H
  iintro H
  simp only [wp_ret]
  imodintro
  iapply Hk
  iexact H

theorem part11_spec (v2 : BitVec 32) (c8_i32_208 : BitVec 32) {Q : (Σ' (v340 : BitVec 32) (v353 : BitVec 32), BitVec 32) → sProp 𝕄} :
    iprop(ctx part fin K ∗ rsSt part c 7) ⊢ iprop((∀ e0, ∀ e1, ∀ e2, (rsSt part c 9) -∗ Q ⟨e0, e1, e2⟩)
      -∗ wp frame (wpE (defs₀ (F := F)) 𝒱₀ (c : Thread nD τ) none) Set.univ (run (k0_part11 (F := F)) c v2 c8_i32_208) Q) := by
  unfold run
  rw [k0_part11_eq_skeleton]
  unfold k0_part11_skel
  simp only [semSignalWord, semWaitWord, Prog.lift, Prog.bind_op, Prog.bind_ret, Prog.pure_eq_ret, wp_deviceId]
  iintro ⟨#HC, H⟩ Hk
  iapply (rs_step part fin K c ⟨k0_dev23 c, k0_dev23_lt c⟩ 7 7 rfl (dev_eq c 7 8 rfl _ (k0_dev23_eq c)) (row1_eq c 7) rfl rfl rfl) $$ [H]
  · isplitr; · iexact HC
    iexact H
  iintro H
  iapply (rs_step part fin K c ⟨k0_dev24 c, k0_dev24_lt c⟩ 8 8 rfl (dev_eq c 8 9 rfl _ (k0_dev24_eq c)) (row1_eq c 8) rfl rfl rfl) $$ [H]
  · isplitr; · iexact HC
    iexact H
  iintro H
  simp only [wp_ret]
  imodintro
  iapply Hk
  iexact H

theorem part12_spec (v2 : BitVec 32) (v366 : BitVec 32) {Q : (Σ' (v379 : BitVec 32), BitVec 32) → sProp 𝕄} :
    iprop(ctx part fin K ∗ rsSt part c 9) ⊢ iprop((∀ e0, ∀ e1, (rsSt part c 11) -∗ Q ⟨e0, e1⟩)
      -∗ wp frame (wpE (defs₀ (F := F)) 𝒱₀ (c : Thread nD τ) none) Set.univ (run (k0_part12 (F := F)) c v2 v366) Q) := by
  unfold run
  rw [k0_part12_eq_skeleton]
  unfold k0_part12_skel
  simp only [semSignalWord, semWaitWord, Prog.lift, Prog.bind_op, Prog.bind_ret, Prog.pure_eq_ret, wp_deviceId]
  iintro ⟨#HC, H⟩ Hk
  iapply (rs_step part fin K c ⟨k0_dev25 c, k0_dev25_lt c⟩ 9 9 rfl (dev_eq c 9 10 rfl _ (k0_dev25_eq c)) (row1_eq c 9) rfl rfl rfl) $$ [H]
  · isplitr; · iexact HC
    iexact H
  iintro H
  iapply (rs_step part fin K c ⟨k0_dev26 c, k0_dev26_lt c⟩ 10 10 rfl (dev_eq c 10 11 rfl _ (k0_dev26_eq c)) (row1_eq c 10) rfl rfl rfl) $$ [H]
  · isplitr; · iexact HC
    iexact H
  iintro H
  simp only [wp_ret]
  imodintro
  iapply Hk
  iexact H

theorem part13_spec (v2 : BitVec 32) {Q : (Σ' (v405 : BitVec 32), BitVec 32) → sProp 𝕄} :
    iprop(ctx part fin K ∗ rsSt part c 11) ⊢ iprop((∀ e0, ∀ e1, (rsSt part c 13) -∗ Q ⟨e0, e1⟩)
      -∗ wp frame (wpE (defs₀ (F := F)) 𝒱₀ (c : Thread nD τ) none) Set.univ (run (k0_part13 (F := F)) c v2) Q) := by
  unfold run
  rw [k0_part13_eq_skeleton]
  unfold k0_part13_skel
  simp only [semSignalWord, semWaitWord, Prog.lift, Prog.bind_op, Prog.bind_ret, Prog.pure_eq_ret, wp_deviceId]
  iintro ⟨#HC, H⟩ Hk
  iapply (rs_step part fin K c ⟨k0_dev27 c, k0_dev27_lt c⟩ 11 11 rfl (dev_eq c 11 12 rfl _ (k0_dev27_eq c)) (row1_eq c 11) rfl rfl rfl) $$ [H]
  · isplitr; · iexact HC
    iexact H
  iintro H
  iapply (rs_step part fin K c ⟨k0_dev28 c, k0_dev28_lt c⟩ 12 12 rfl (dev_eq c 12 13 rfl _ (k0_dev28_eq c)) (row1_eq c 12) rfl rfl rfl) $$ [H]
  · isplitr; · iexact HC
    iexact H
  iintro H
  simp only [wp_ret]
  imodintro
  iapply Hk
  iexact H

theorem part14_spec (v2 : BitVec 32) (v249 : BitVec 32) (v262 : BitVec 32) {Q : (BitVec 32) → sProp 𝕄} :
    iprop(ctx part fin K ∗ rsSt part c 13 ∗ pre 1 Fin.rev c) ⊢ iprop((∀ e, (waitSt part fin 1 Fin.rev (owe c 15 15 0) c 1 ∗ crs 0 c) -∗ Q e)
      -∗ wp frame (wpE (defs₀ (F := F)) 𝒱₀ (c : Thread nD τ) none) Set.univ (run (k0_part14 (F := F)) c v2 v249 v262) Q) := by
  unfold run
  rw [k0_part14_eq_skeleton]
  unfold k0_part14_skel
  simp only [semSignalWord, semWaitWord, Prog.lift, Prog.bind_op, Prog.bind_ret, Prog.pure_eq_ret, wp_deviceId]
  iintro ⟨#HC, H, Hx⟩ Hk
  iapply (rs_step part fin K c ⟨k0_dev29 c, k0_dev29_lt c⟩ 13 13 rfl (dev_eq c 13 14 rfl _ (k0_dev29_eq c)) (row1_eq c 13) rfl rfl rfl) $$ [H]
  · isplitr; · iexact HC
    iexact H
  iintro H
  iapply (rs_step part fin K c ⟨k0_dev30 c, k0_dev30_lt c⟩ 14 14 rfl (dev_eq c 14 15 rfl _ (k0_dev30_eq c)) (row1_eq c 14) rfl rfl rfl) $$ [H]
  · isplitr; · iexact HC
    iexact H
  iintro H
  ihave Ht := (rs_done part fin c) $$ [H Hx]
  · isplitl [H] <;> iassumption
  icases Ht with ⟨H, Hy⟩
  iapply (wait_step part fin K 1 Fin.rev 15 15 0 (fun h => absurd h (by decide)) (fun h => absurd h (by decide)) (fun _ => by decide) c 0 0 rfl rfl (credit_any _)) $$ [H]
  · isplitr; · iexact HC
    iexact H
  iintro H
  simp only [wp_ret]
  imodintro
  iapply Hk
  isplitl [H] <;> iassumption

theorem part15_spec (v275 : BitVec 32) (v288 : BitVec 32) (v301 : BitVec 32) {Q : (PUnit) → sProp 𝕄} :
    iprop(ctx part fin K ∗ waitSt part fin 1 Fin.rev (owe c 15 15 0) c 1) ⊢ iprop(((waitSt part fin 1 Fin.rev (owe c 15 15 0) c 5) -∗ Q ⟨⟩)
      -∗ wp frame (wpE (defs₀ (F := F)) 𝒱₀ (c : Thread nD τ) none) Set.univ (run (k0_part15 (F := F)) c v275 v288 v301) Q) := by
  unfold run
  rw [k0_part15_eq_skeleton]
  unfold k0_part15_skel
  simp only [semSignalWord, semWaitWord, Prog.lift, Prog.bind_op, Prog.bind_ret, Prog.pure_eq_ret, wp_deviceId]
  iintro ⟨#HC, H⟩ Hk
  iapply (wait_step part fin K 1 Fin.rev 15 15 0 (fun h => absurd h (by decide)) (fun h => absurd h (by decide)) (fun _ => by decide) c 1 1 rfl rfl (credit_any _)) $$ [H]
  · isplitr; · iexact HC
    iexact H
  iintro H
  iapply (wait_step part fin K 1 Fin.rev 15 15 0 (fun h => absurd h (by decide)) (fun h => absurd h (by decide)) (fun _ => by decide) c 2 2 rfl rfl (credit_any _)) $$ [H]
  · isplitr; · iexact HC
    iexact H
  iintro H
  iapply (wait_step part fin K 1 Fin.rev 15 15 0 (fun h => absurd h (by decide)) (fun h => absurd h (by decide)) (fun _ => by decide) c 3 3 rfl rfl (credit_any _)) $$ [H]
  · isplitr; · iexact HC
    iexact H
  iintro H
  iapply (wait_step part fin K 1 Fin.rev 15 15 0 (fun h => absurd h (by decide)) (fun h => absurd h (by decide)) (fun _ => by decide) c 4 4 rfl rfl (credit_any _)) $$ [H]
  · isplitr; · iexact HC
    iexact H
  iintro H
  simp only [wp_ret]
  imodintro
  iapply Hk
  iexact H

theorem part16_spec (v314 : BitVec 32) (v327 : BitVec 32) (v340 : BitVec 32) (v353 : BitVec 32) {Q : (PUnit) → sProp 𝕄} :
    iprop(ctx part fin K ∗ waitSt part fin 1 Fin.rev (owe c 15 15 0) c 5) ⊢ iprop(((waitSt part fin 1 Fin.rev (owe c 15 15 0) c 8) -∗ Q ⟨⟩)
      -∗ wp frame (wpE (defs₀ (F := F)) 𝒱₀ (c : Thread nD τ) none) Set.univ (run (k0_part16 (F := F)) c v314 v327 v340 v353) Q) := by
  unfold run
  rw [k0_part16_eq_skeleton]
  unfold k0_part16_skel
  simp only [semSignalWord, semWaitWord, Prog.lift, Prog.bind_op, Prog.bind_ret, Prog.pure_eq_ret, wp_deviceId]
  iintro ⟨#HC, H⟩ Hk
  iapply (wait_step part fin K 1 Fin.rev 15 15 0 (fun h => absurd h (by decide)) (fun h => absurd h (by decide)) (fun _ => by decide) c 5 5 rfl rfl (credit_any _)) $$ [H]
  · isplitr; · iexact HC
    iexact H
  iintro H
  iapply (wait_step part fin K 1 Fin.rev 15 15 0 (fun h => absurd h (by decide)) (fun h => absurd h (by decide)) (fun _ => by decide) c 6 6 rfl rfl (credit_any _)) $$ [H]
  · isplitr; · iexact HC
    iexact H
  iintro H
  iapply (wait_step part fin K 1 Fin.rev 15 15 0 (fun h => absurd h (by decide)) (fun h => absurd h (by decide)) (fun _ => by decide) c 7 7 rfl rfl (credit_any _)) $$ [H]
  · isplitr; · iexact HC
    iexact H
  iintro H
  simp only [wp_ret]
  imodintro
  iapply Hk
  iexact H

theorem part17_spec (v366 : BitVec 32) (v379 : BitVec 32) (v392 : BitVec 32) {Q : (PUnit) → sProp 𝕄} :
    iprop(ctx part fin K ∗ waitSt part fin 1 Fin.rev (owe c 15 15 0) c 8) ⊢ iprop(((waitSt part fin 1 Fin.rev (owe c 15 15 0) c 11) -∗ Q ⟨⟩)
      -∗ wp frame (wpE (defs₀ (F := F)) 𝒱₀ (c : Thread nD τ) none) Set.univ (run (k0_part17 (F := F)) c v366 v379 v392) Q) := by
  unfold run
  rw [k0_part17_eq_skeleton]
  unfold k0_part17_skel
  simp only [semSignalWord, semWaitWord, Prog.lift, Prog.bind_op, Prog.bind_ret, Prog.pure_eq_ret, wp_deviceId]
  iintro ⟨#HC, H⟩ Hk
  iapply (wait_step part fin K 1 Fin.rev 15 15 0 (fun h => absurd h (by decide)) (fun h => absurd h (by decide)) (fun _ => by decide) c 8 8 rfl rfl (credit_any _)) $$ [H]
  · isplitr; · iexact HC
    iexact H
  iintro H
  iapply (wait_step part fin K 1 Fin.rev 15 15 0 (fun h => absurd h (by decide)) (fun h => absurd h (by decide)) (fun _ => by decide) c 9 9 rfl rfl (credit_any _)) $$ [H]
  · isplitr; · iexact HC
    iexact H
  iintro H
  iapply (wait_step part fin K 1 Fin.rev 15 15 0 (fun h => absurd h (by decide)) (fun h => absurd h (by decide)) (fun _ => by decide) c 10 10 rfl rfl (credit_any _)) $$ [H]
  · isplitr; · iexact HC
    iexact H
  iintro H
  simp only [wp_ret]
  imodintro
  iapply Hk
  iexact H

theorem part18_spec (v2 : BitVec 32) (v405 : BitVec 32) (v418 : BitVec 32) (v431 : BitVec 32) {Q : (BitVec 32) → sProp 𝕄} :
    iprop(ctx part fin K ∗ waitSt part fin 1 Fin.rev (owe c 15 15 0) c 11) ⊢ iprop((∀ e, (waitSt part fin 1 Fin.rev (owe c 15 15 0) c 15) -∗ Q e)
      -∗ wp frame (wpE (defs₀ (F := F)) 𝒱₀ (c : Thread nD τ) none) Set.univ (run (k0_part18 (F := F)) c v2 v405 v418 v431) Q) := by
  unfold run
  rw [k0_part18_eq_skeleton]
  unfold k0_part18_skel
  simp only [semSignalWord, semWaitWord, Prog.lift, Prog.bind_op, Prog.bind_ret, Prog.pure_eq_ret, wp_deviceId]
  iintro ⟨#HC, H⟩ Hk
  iapply (wait_step part fin K 1 Fin.rev 15 15 0 (fun h => absurd h (by decide)) (fun h => absurd h (by decide)) (fun _ => by decide) c 11 11 rfl rfl (credit_any _)) $$ [H]
  · isplitr; · iexact HC
    iexact H
  iintro H
  iapply (wait_step part fin K 1 Fin.rev 15 15 0 (fun h => absurd h (by decide)) (fun h => absurd h (by decide)) (fun _ => by decide) c 12 12 rfl rfl (credit_any _)) $$ [H]
  · isplitr; · iexact HC
    iexact H
  iintro H
  iapply (wait_step part fin K 1 Fin.rev 15 15 0 (fun h => absurd h (by decide)) (fun h => absurd h (by decide)) (fun _ => by decide) c 13 13 rfl rfl (credit_any _)) $$ [H]
  · isplitr; · iexact HC
    iexact H
  iintro H
  iapply (wait_step part fin K 1 Fin.rev 15 15 0 (fun h => absurd h (by decide)) (fun h => absurd h (by decide)) (fun _ => by decide) c 14 14 rfl rfl (credit_any _)) $$ [H]
  · isplitr; · iexact HC
    iexact H
  iintro H
  simp only [wp_ret]
  imodintro
  iapply Hk
  iexact H

end Cert.Mesh

end
-- ==== Proof.PartsC.lean ====
/-
# The body: adding up

Parts nineteen to twenty-four: the sum of the device's own rows and the received ones, and the waits for its own copies.
-/
module

public import proofs.«01_k».proof.Proof.Run

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → OutBuf F) (fin : OutBuf F) (K : Dev nD × Option (Fin 4 × Fin 15) → ℕ) (c : Dev nD)

set_option maxRecDepth 8000

theorem part19_spec (v563 : BitVec 32) (f : OutBuf F) (g : SBuf F) {Q : (Σ' (v595 : FVec F S16x1024 .f32), FVec F S16x1024 .f32) → sProp 𝕄} :
    iprop(outAt c c fullShare f ∗ rcvPt c g)
      ⊢ iprop(((outAt c c fullShare f ∗ rcvPt c g) -∗ Q ⟨k0_pay14 (rowRd c f) (slotRd 0 g) (slotRd 1 g) (slotRd 2 g) (slotRd 3 g) (slotRd 4 g) (slotRd 5 g) (slotRd 6 g), k0_pay15 (slotRd 7 g)⟩)
      -∗ wp frame (wpE (defs₀ (F := F)) 𝒱₀ (c : Thread nD τ) none) Set.univ (run (k0_part19 (F := F)) c v563) Q) := by
  unfold run
  rw [k0_part19_eq_skeleton]
  unfold k0_part19_skel
  simp only [semSignalWord, semWaitWord, Prog.lift, Prog.bind_op, Prog.bind_ret, Prog.pure_eq_ret, wp_deviceId]
  iintro ⟨Ho, Hs⟩ Hk
  iapply (load_row c c fullShare f (k0_off2_eq c)) $$ Ho
  iintro Ho
  iapply (load_slot c g 0 (by decide)) $$ Hs
  iintro Hs
  iapply (load_slot c g 1 (by decide)) $$ Hs
  iintro Hs
  iapply (load_slot c g 2 (by decide)) $$ Hs
  iintro Hs
  iapply (load_slot c g 3 (by decide)) $$ Hs
  iintro Hs
  iapply (load_slot c g 4 (by decide)) $$ Hs
  iintro Hs
  iapply (load_slot c g 5 (by decide)) $$ Hs
  iintro Hs
  iapply (load_slot c g 6 (by decide)) $$ Hs
  iintro Hs
  iapply (load_slot c g 7 (by decide)) $$ Hs
  iintro Hs
  simp only [wp_ret]
  imodintro
  iapply Hk
  isplitl [Ho] <;> iassumption

theorem part20_spec (v2 : BitVec 32) {Q : (PUnit) → sProp 𝕄} :
    iprop(outAt c c fullShare (part c) ∗ rcvPt c (commC part c))
      ⊢ iprop(((outAt c c fullShare (finOf part) ∗ rcvPt c (commC part c)) -∗ Q ⟨⟩)
      -∗ wp frame (wpE (defs₀ (F := F)) 𝒱₀ (c : Thread nD τ) none) Set.univ (run (k0_part20 (F := F)) c v2 (k0_pay14 (rowRd c (part c)) (slotRd 0 (commC part c)) (slotRd 1 (commC part c)) (slotRd 2 (commC part c)) (slotRd 3 (commC part c)) (slotRd 4 (commC part c)) (slotRd 5 (commC part c)) (slotRd 6 (commC part c))) (k0_pay15 (slotRd 7 (commC part c)))) Q) := by
  unfold run
  rw [k0_part20_eq_skeleton]
  unfold k0_part20_skel
  simp only [semSignalWord, semWaitWord, Prog.lift, Prog.bind_op, Prog.bind_ret, Prog.pure_eq_ret, wp_deviceId]
  iintro ⟨Ho, Hs⟩ Hk
  iapply (load_slot c (commC part c) 8 (by decide)) $$ Hs
  iintro Hs
  iapply (load_slot c (commC part c) 9 (by decide)) $$ Hs
  iintro Hs
  iapply (load_slot c (commC part c) 10 (by decide)) $$ Hs
  iintro Hs
  iapply (load_slot c (commC part c) 11 (by decide)) $$ Hs
  iintro Hs
  iapply (load_slot c (commC part c) 12 (by decide)) $$ Hs
  iintro Hs
  iapply (load_slot c (commC part c) 13 (by decide)) $$ Hs
  iintro Hs
  iapply (load_slot c (commC part c) 14 (by decide)) $$ Hs
  iintro Hs
  iapply (load_row c c fullShare (part c) (k0_off2_eq c)) $$ Ho
  iintro Ho
  iapply (store_row c part c (part c) (k0_off2_eq c)) $$ Ho
  iintro Ho
  simp only [wp_ret]
  imodintro
  iapply Hk
  isplitl [Ho] <;> iassumption

theorem part21_spec {Q : (PUnit) → sProp 𝕄} :
    iprop(ctx part fin K ∗ waitSt part fin 0 σI (owe c 15 15 0) c 0) ⊢ iprop(((waitSt part fin 0 σI (owe c 15 15 0) c 4) -∗ Q ⟨⟩)
      -∗ wp frame (wpE (defs₀ (F := F)) 𝒱₀ (c : Thread nD τ) none) Set.univ (run (k0_part21 (F := F)) c) Q) := by
  unfold run
  rw [k0_part21_eq_skeleton]
  unfold k0_part21_skel
  simp only [semSignalWord, semWaitWord, Prog.lift, Prog.bind_op, Prog.bind_ret, Prog.pure_eq_ret, wp_deviceId]
  iintro ⟨#HC, H⟩ Hk
  iapply (wait_step part fin K 0 σI 15 15 0 (fun h => absurd h (by decide)) (fun h => absurd h (by decide)) (fun _ => by decide) c 0 0 rfl rfl (credit_any _)) $$ [H]
  · isplitr; · iexact HC
    iexact H
  iintro H
  iapply (wait_step part fin K 0 σI 15 15 0 (fun h => absurd h (by decide)) (fun h => absurd h (by decide)) (fun _ => by decide) c 1 1 rfl rfl (credit_any _)) $$ [H]
  · isplitr; · iexact HC
    iexact H
  iintro H
  iapply (wait_step part fin K 0 σI 15 15 0 (fun h => absurd h (by decide)) (fun h => absurd h (by decide)) (fun _ => by decide) c 2 2 rfl rfl (credit_any _)) $$ [H]
  · isplitr; · iexact HC
    iexact H
  iintro H
  iapply (wait_step part fin K 0 σI 15 15 0 (fun h => absurd h (by decide)) (fun h => absurd h (by decide)) (fun _ => by decide) c 3 3 rfl rfl (credit_any _)) $$ [H]
  · isplitr; · iexact HC
    iexact H
  iintro H
  simp only [wp_ret]
  imodintro
  iapply Hk
  iexact H

theorem part22_spec {Q : (PUnit) → sProp 𝕄} :
    iprop(ctx part fin K ∗ waitSt part fin 0 σI (owe c 15 15 0) c 4) ⊢ iprop(((waitSt part fin 0 σI (owe c 15 15 0) c 8) -∗ Q ⟨⟩)
      -∗ wp frame (wpE (defs₀ (F := F)) 𝒱₀ (c : Thread nD τ) none) Set.univ (run (k0_part22 (F := F)) c) Q) := by
  unfold run
  rw [k0_part22_eq_skeleton]
  unfold k0_part22_skel
  simp only [semSignalWord, semWaitWord, Prog.lift, Prog.bind_op, Prog.bind_ret, Prog.pure_eq_ret, wp_deviceId]
  iintro ⟨#HC, H⟩ Hk
  iapply (wait_step part fin K 0 σI 15 15 0 (fun h => absurd h (by decide)) (fun h => absurd h (by decide)) (fun _ => by decide) c 4 4 rfl rfl (credit_any _)) $$ [H]
  · isplitr; · iexact HC
    iexact H
  iintro H
  iapply (wait_step part fin K 0 σI 15 15 0 (fun h => absurd h (by decide)) (fun h => absurd h (by decide)) (fun _ => by decide) c 5 5 rfl rfl (credit_any _)) $$ [H]
  · isplitr; · iexact HC
    iexact H
  iintro H
  iapply (wait_step part fin K 0 σI 15 15 0 (fun h => absurd h (by decide)) (fun h => absurd h (by decide)) (fun _ => by decide) c 6 6 rfl rfl (credit_any _)) $$ [H]
  · isplitr; · iexact HC
    iexact H
  iintro H
  iapply (wait_step part fin K 0 σI 15 15 0 (fun h => absurd h (by decide)) (fun h => absurd h (by decide)) (fun _ => by decide) c 7 7 rfl rfl (credit_any _)) $$ [H]
  · isplitr; · iexact HC
    iexact H
  iintro H
  simp only [wp_ret]
  imodintro
  iapply Hk
  iexact H

theorem part23_spec {Q : (PUnit) → sProp 𝕄} :
    iprop(ctx part fin K ∗ waitSt part fin 0 σI (owe c 15 15 0) c 8) ⊢ iprop(((waitSt part fin 0 σI (owe c 15 15 0) c 12) -∗ Q ⟨⟩)
      -∗ wp frame (wpE (defs₀ (F := F)) 𝒱₀ (c : Thread nD τ) none) Set.univ (run (k0_part23 (F := F)) c) Q) := by
  unfold run
  rw [k0_part23_eq_skeleton]
  unfold k0_part23_skel
  simp only [semSignalWord, semWaitWord, Prog.lift, Prog.bind_op, Prog.bind_ret, Prog.pure_eq_ret, wp_deviceId]
  iintro ⟨#HC, H⟩ Hk
  iapply (wait_step part fin K 0 σI 15 15 0 (fun h => absurd h (by decide)) (fun h => absurd h (by decide)) (fun _ => by decide) c 8 8 rfl rfl (credit_any _)) $$ [H]
  · isplitr; · iexact HC
    iexact H
  iintro H
  iapply (wait_step part fin K 0 σI 15 15 0 (fun h => absurd h (by decide)) (fun h => absurd h (by decide)) (fun _ => by decide) c 9 9 rfl rfl (credit_any _)) $$ [H]
  · isplitr; · iexact HC
    iexact H
  iintro H
  iapply (wait_step part fin K 0 σI 15 15 0 (fun h => absurd h (by decide)) (fun h => absurd h (by decide)) (fun _ => by decide) c 10 10 rfl rfl (credit_any _)) $$ [H]
  · isplitr; · iexact HC
    iexact H
  iintro H
  iapply (wait_step part fin K 0 σI 15 15 0 (fun h => absurd h (by decide)) (fun h => absurd h (by decide)) (fun _ => by decide) c 11 11 rfl rfl (credit_any _)) $$ [H]
  · isplitr; · iexact HC
    iexact H
  iintro H
  simp only [wp_ret]
  imodintro
  iapply Hk
  iexact H

theorem part24_spec (v2 : BitVec 32) {Q : (Σ' (v725 : BitVec 32) (v728 : BitVec 32), BitVec 32) → sProp 𝕄} :
    iprop(ctx part fin K ∗ waitSt part fin 0 σI (owe c 15 15 0) c 12) ⊢ iprop((∀ e0, ∀ e1, ∀ e2, (waitSt part fin 0 σI (owe c 15 15 0) c 15) -∗ Q ⟨e0, e1, e2⟩)
      -∗ wp frame (wpE (defs₀ (F := F)) 𝒱₀ (c : Thread nD τ) none) Set.univ (run (k0_part24 (F := F)) c v2) Q) := by
  unfold run
  rw [k0_part24_eq_skeleton]
  unfold k0_part24_skel
  simp only [semSignalWord, semWaitWord, Prog.lift, Prog.bind_op, Prog.bind_ret, Prog.pure_eq_ret, wp_deviceId]
  iintro ⟨#HC, H⟩ Hk
  iapply (wait_step part fin K 0 σI 15 15 0 (fun h => absurd h (by decide)) (fun h => absurd h (by decide)) (fun _ => by decide) c 12 12 rfl rfl (credit_any _)) $$ [H]
  · isplitr; · iexact HC
    iexact H
  iintro H
  iapply (wait_step part fin K 0 σI 15 15 0 (fun h => absurd h (by decide)) (fun h => absurd h (by decide)) (fun _ => by decide) c 13 13 rfl rfl (credit_any _)) $$ [H]
  · isplitr; · iexact HC
    iexact H
  iintro H
  iapply (wait_step part fin K 0 σI 15 15 0 (fun h => absurd h (by decide)) (fun h => absurd h (by decide)) (fun _ => by decide) c 14 14 rfl rfl (credit_any _)) $$ [H]
  · isplitr; · iexact HC
    iexact H
  iintro H
  simp only [wp_ret]
  imodintro
  iapply Hk
  iexact H

end Cert.Mesh

end
-- ==== Proof.PartsD.lean ====
/-
# The body: the all-gather

Parts twenty-five to thirty-eight: the fifteen copies of the finished rows, and the waits for the others' rows and for the
device's own copies.
-/
module

public import proofs.«01_k».proof.Proof.Run

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → OutBuf F) (fin : OutBuf F) (K : Dev nD × Option (Fin 4 × Fin 15) → ℕ) (c : Dev nD)

set_option maxRecDepth 8000

theorem part25_spec (v2 : BitVec 32) (v728 : BitVec 32) (c0_i32_605 : BitVec 32) {Q : (Σ' (v739 : BitVec 32), BitVec 32) → sProp 𝕄} :
    iprop(ctx part fin K ∗ agSt fin c 0) ⊢ iprop((∀ e0, ∀ e1, (agSt fin c 2) -∗ Q ⟨e0, e1⟩)
      -∗ wp frame (wpE (defs₀ (F := F)) 𝒱₀ (c : Thread nD τ) none) Set.univ (run (k0_part25 (F := F)) c v2 v728 c0_i32_605) Q) := by
  unfold run
  rw [k0_part25_eq_skeleton]
  unfold k0_part25_skel
  simp only [semSignalWord, semWaitWord, Prog.lift, Prog.bind_op, Prog.bind_ret, Prog.pure_eq_ret, wp_deviceId]
  iintro ⟨#HC, H⟩ Hk
  iapply (ag_step part fin K c ⟨k0_dev31 c, k0_dev31_lt c⟩ 0 0 rfl (dev_eq c 0 1 rfl _ (k0_dev31_eq c)) (row3_eq c) (row3_eq c) rfl rfl) $$ [H]
  · isplitr; · iexact HC
    iexact H
  iintro H
  iapply (ag_step part fin K c ⟨k0_dev32 c, k0_dev32_lt c⟩ 1 1 rfl (dev_eq c 1 2 rfl _ (k0_dev32_eq c)) (row3_eq c) (row3_eq c) rfl rfl) $$ [H]
  · isplitr; · iexact HC
    iexact H
  iintro H
  simp only [wp_ret]
  imodintro
  iapply Hk
  iexact H

theorem part26_spec (v2 : BitVec 32) {Q : (Σ' (v767 : BitVec 32), BitVec 32) → sProp 𝕄} :
    iprop(ctx part fin K ∗ agSt fin c 2) ⊢ iprop((∀ e0, ∀ e1, (agSt fin c 5) -∗ Q ⟨e0, e1⟩)
      -∗ wp frame (wpE (defs₀ (F := F)) 𝒱₀ (c : Thread nD τ) none) Set.univ (run (k0_part26 (F := F)) c v2) Q) := by
  unfold run
  rw [k0_part26_eq_skeleton]
  unfold k0_part26_skel
  simp only [semSignalWord, semWaitWord, Prog.lift, Prog.bind_op, Prog.bind_ret, Prog.pure_eq_ret, wp_deviceId]
  iintro ⟨#HC, H⟩ Hk
  iapply (ag_step part fin K c ⟨k0_dev33 c, k0_dev33_lt c⟩ 2 2 rfl (dev_eq c 2 3 rfl _ (k0_dev33_eq c)) (row3_eq c) (row3_eq c) rfl rfl) $$ [H]
  · isplitr; · iexact HC
    iexact H
  iintro H
  iapply (ag_step part fin K c ⟨k0_dev34 c, k0_dev34_lt c⟩ 3 3 rfl (dev_eq c 3 4 rfl _ (k0_dev34_eq c)) (row3_eq c) (row3_eq c) rfl rfl) $$ [H]
  · isplitr; · iexact HC
    iexact H
  iintro H
  iapply (ag_step part fin K c ⟨k0_dev35 c, k0_dev35_lt c⟩ 4 4 rfl (dev_eq c 4 5 rfl _ (k0_dev35_eq c)) (row3_eq c) (row3_eq c) rfl rfl) $$ [H]
  · isplitr; · iexact HC
    iexact H
  iintro H
  simp only [wp_ret]
  imodintro
  iapply Hk
  iexact H

theorem part27_spec (v2 : BitVec 32) {Q : (Σ' (v795 : BitVec 32) (v809 : BitVec 32), BitVec 32) → sProp 𝕄} :
    iprop(ctx part fin K ∗ agSt fin c 5) ⊢ iprop((∀ e0, ∀ e1, ∀ e2, (agSt fin c 7) -∗ Q ⟨e0, e1, e2⟩)
      -∗ wp frame (wpE (defs₀ (F := F)) 𝒱₀ (c : Thread nD τ) none) Set.univ (run (k0_part27 (F := F)) c v2) Q) := by
  unfold run
  rw [k0_part27_eq_skeleton]
  unfold k0_part27_skel
  simp only [semSignalWord, semWaitWord, Prog.lift, Prog.bind_op, Prog.bind_ret, Prog.pure_eq_ret, wp_deviceId]
  iintro ⟨#HC, H⟩ Hk
  iapply (ag_step part fin K c ⟨k0_dev36 c, k0_dev36_lt c⟩ 5 5 rfl (dev_eq c 5 6 rfl _ (k0_dev36_eq c)) (row3_eq c) (row3_eq c) rfl rfl) $$ [H]
  · isplitr; · iexact HC
    iexact H
  iintro H
  iapply (ag_step part fin K c ⟨k0_dev37 c, k0_dev37_lt c⟩ 6 6 rfl (dev_eq c 6 7 rfl _ (k0_dev37_eq c)) (row3_eq c) (row3_eq c) rfl rfl) $$ [H]
  · isplitr; · iexact HC
    iexact H
  iintro H
  simp only [wp_ret]
  imodintro
  iapply Hk
  iexact H

theorem part28_spec (v2 : BitVec 32) (v823 : BitVec 32) {Q : (Σ' (v837 : BitVec 32), BitVec 32) → sProp 𝕄} :
    iprop(ctx part fin K ∗ agSt fin c 7) ⊢ iprop((∀ e0, ∀ e1, (agSt fin c 9) -∗ Q ⟨e0, e1⟩)
      -∗ wp frame (wpE (defs₀ (F := F)) 𝒱₀ (c : Thread nD τ) none) Set.univ (run (k0_part28 (F := F)) c v2 v823) Q) := by
  unfold run
  rw [k0_part28_eq_skeleton]
  unfold k0_part28_skel
  simp only [semSignalWord, semWaitWord, Prog.lift, Prog.bind_op, Prog.bind_ret, Prog.pure_eq_ret, wp_deviceId]
  iintro ⟨#HC, H⟩ Hk
  iapply (ag_step part fin K c ⟨k0_dev38 c, k0_dev38_lt c⟩ 7 7 rfl (dev_eq c 7 8 rfl _ (k0_dev38_eq c)) (row3_eq c) (row3_eq c) rfl rfl) $$ [H]
  · isplitr; · iexact HC
    iexact H
  iintro H
  iapply (ag_step part fin K c ⟨k0_dev39 c, k0_dev39_lt c⟩ 8 8 rfl (dev_eq c 8 9 rfl _ (k0_dev39_eq c)) (row3_eq c) (row3_eq c) rfl rfl) $$ [H]
  · isplitr; · iexact HC
    iexact H
  iintro H
  simp only [wp_ret]
  imodintro
  iapply Hk
  iexact H

theorem part29_spec (v2 : BitVec 32) (v851 : BitVec 32) {Q : (Σ' (v865 : BitVec 32), BitVec 32) → sProp 𝕄} :
    iprop(ctx part fin K ∗ agSt fin c 9) ⊢ iprop((∀ e0, ∀ e1, (agSt fin c 11) -∗ Q ⟨e0, e1⟩)
      -∗ wp frame (wpE (defs₀ (F := F)) 𝒱₀ (c : Thread nD τ) none) Set.univ (run (k0_part29 (F := F)) c v2 v851) Q) := by
  unfold run
  rw [k0_part29_eq_skeleton]
  unfold k0_part29_skel
  simp only [semSignalWord, semWaitWord, Prog.lift, Prog.bind_op, Prog.bind_ret, Prog.pure_eq_ret, wp_deviceId]
  iintro ⟨#HC, H⟩ Hk
  iapply (ag_step part fin K c ⟨k0_dev40 c, k0_dev40_lt c⟩ 9 9 rfl (dev_eq c 9 10 rfl _ (k0_dev40_eq c)) (row3_eq c) (row3_eq c) rfl rfl) $$ [H]
  · isplitr; · iexact HC
    iexact H
  iintro H
  iapply (ag_step part fin K c ⟨k0_dev41 c, k0_dev41_lt c⟩ 10 10 rfl (dev_eq c 10 11 rfl _ (k0_dev41_eq c)) (row3_eq c) (row3_eq c) rfl rfl) $$ [H]
  · isplitr; · iexact HC
    iexact H
  iintro H
  simp only [wp_ret]
  imodintro
  iapply Hk
  iexact H

theorem part30_spec (v2 : BitVec 32) {Q : (Σ' (v893 : BitVec 32), BitVec 32) → sProp 𝕄} :
    iprop(ctx part fin K ∗ agSt fin c 11) ⊢ iprop((∀ e0, ∀ e1, (agSt fin c 13) -∗ Q ⟨e0, e1⟩)
      -∗ wp frame (wpE (defs₀ (F := F)) 𝒱₀ (c : Thread nD τ) none) Set.univ (run (k0_part30 (F := F)) c v2) Q) := by
  unfold run
  rw [k0_part30_eq_skeleton]
  unfold k0_part30_skel
  simp only [semSignalWord, semWaitWord, Prog.lift, Prog.bind_op, Prog.bind_ret, Prog.pure_eq_ret, wp_deviceId]
  iintro ⟨#HC, H⟩ Hk
  iapply (ag_step part fin K c ⟨k0_dev42 c, k0_dev42_lt c⟩ 11 11 rfl (dev_eq c 11 12 rfl _ (k0_dev42_eq c)) (row3_eq c) (row3_eq c) rfl rfl) $$ [H]
  · isplitr; · iexact HC
    iexact H
  iintro H
  iapply (ag_step part fin K c ⟨k0_dev43 c, k0_dev43_lt c⟩ 12 12 rfl (dev_eq c 12 13 rfl _ (k0_dev43_eq c)) (row3_eq c) (row3_eq c) rfl rfl) $$ [H]
  · isplitr; · iexact HC
    iexact H
  iintro H
  simp only [wp_ret]
  imodintro
  iapply Hk
  iexact H

theorem part31_spec (v2 : BitVec 32) (v725 : BitVec 32) (v739 : BitVec 32) {Q : (BitVec 32) → sProp 𝕄} :
    iprop(ctx part fin K ∗ agSt fin c 13 ∗ pre 3 σI c) ⊢ iprop((∀ e, (waitSt part fin 3 σI (owe c 15 15 15) c 1 ∗ crs 2 c ∗ outAt c c (restQ 15) fin) -∗ Q e)
      -∗ wp frame (wpE (defs₀ (F := F)) 𝒱₀ (c : Thread nD τ) none) Set.univ (run (k0_part31 (F := F)) c v2 v725 v739) Q) := by
  unfold run
  rw [k0_part31_eq_skeleton]
  unfold k0_part31_skel
  simp only [semSignalWord, semWaitWord, Prog.lift, Prog.bind_op, Prog.bind_ret, Prog.pure_eq_ret, wp_deviceId]
  iintro ⟨#HC, H, Hx⟩ Hk
  iapply (ag_step part fin K c ⟨k0_dev44 c, k0_dev44_lt c⟩ 13 13 rfl (dev_eq c 13 14 rfl _ (k0_dev44_eq c)) (row3_eq c) (row3_eq c) rfl rfl) $$ [H]
  · isplitr; · iexact HC
    iexact H
  iintro H
  iapply (ag_step part fin K c ⟨k0_dev45 c, k0_dev45_lt c⟩ 14 14 rfl (dev_eq c 14 15 rfl _ (k0_dev45_eq c)) (row3_eq c) (row3_eq c) rfl rfl) $$ [H]
  · isplitr; · iexact HC
    iexact H
  iintro H
  ihave Ht := (ag_done part fin c) $$ [H Hx]
  · isplitl [H] <;> iassumption
  icases Ht with ⟨H, Hy⟩
  iapply (wait_step part fin K 3 σI 15 15 15 (fun h => absurd h (by decide)) (fun h => absurd h (by decide)) (fun h => absurd h (by decide)) c 0 0 rfl rfl (credit_any _)) $$ [H]
  · isplitr; · iexact HC
    iexact H
  iintro H
  simp only [wp_ret]
  imodintro
  iapply Hk
  isplitl [H] <;> iassumption

theorem part32_spec (v753 : BitVec 32) (v767 : BitVec 32) (v781 : BitVec 32) {Q : (BitVec 32) → sProp 𝕄} :
    iprop(ctx part fin K ∗ waitSt part fin 3 σI (owe c 15 15 15) c 1) ⊢ iprop((∀ e, (waitSt part fin 3 σI (owe c 15 15 15) c 5) -∗ Q e)
      -∗ wp frame (wpE (defs₀ (F := F)) 𝒱₀ (c : Thread nD τ) none) Set.univ (run (k0_part32 (F := F)) c v753 v767 v781) Q) := by
  unfold run
  rw [k0_part32_eq_skeleton]
  unfold k0_part32_skel
  simp only [semSignalWord, semWaitWord, Prog.lift, Prog.bind_op, Prog.bind_ret, Prog.pure_eq_ret, wp_deviceId]
  iintro ⟨#HC, H⟩ Hk
  iapply (wait_step part fin K 3 σI 15 15 15 (fun h => absurd h (by decide)) (fun h => absurd h (by decide)) (fun h => absurd h (by decide)) c 1 1 rfl rfl (credit_any _)) $$ [H]
  · isplitr; · iexact HC
    iexact H
  iintro H
  iapply (wait_step part fin K 3 σI 15 15 15 (fun h => absurd h (by decide)) (fun h => absurd h (by decide)) (fun h => absurd h (by decide)) c 2 2 rfl rfl (credit_any _)) $$ [H]
  · isplitr; · iexact HC
    iexact H
  iintro H
  iapply (wait_step part fin K 3 σI 15 15 15 (fun h => absurd h (by decide)) (fun h => absurd h (by decide)) (fun h => absurd h (by decide)) c 3 3 rfl rfl (credit_any _)) $$ [H]
  · isplitr; · iexact HC
    iexact H
  iintro H
  iapply (wait_step part fin K 3 σI 15 15 15 (fun h => absurd h (by decide)) (fun h => absurd h (by decide)) (fun h => absurd h (by decide)) c 4 4 rfl rfl (credit_any _)) $$ [H]
  · isplitr; · iexact HC
    iexact H
  iintro H
  simp only [wp_ret]
  imodintro
  iapply Hk
  iexact H

theorem part33_spec (v795 : BitVec 32) (v809 : BitVec 32) (v823 : BitVec 32) (v837 : BitVec 32) (c1_i32_820 : BitVec 32) {Q : (PUnit) → sProp 𝕄} :
    iprop(ctx part fin K ∗ waitSt part fin 3 σI (owe c 15 15 15) c 5) ⊢ iprop(((waitSt part fin 3 σI (owe c 15 15 15) c 8) -∗ Q ⟨⟩)
      -∗ wp frame (wpE (defs₀ (F := F)) 𝒱₀ (c : Thread nD τ) none) Set.univ (run (k0_part33 (F := F)) c v795 v809 v823 v837 c1_i32_820) Q) := by
  unfold run
  rw [k0_part33_eq_skeleton]
  unfold k0_part33_skel
  simp only [semSignalWord, semWaitWord, Prog.lift, Prog.bind_op, Prog.bind_ret, Prog.pure_eq_ret, wp_deviceId]
  iintro ⟨#HC, H⟩ Hk
  iapply (wait_step part fin K 3 σI 15 15 15 (fun h => absurd h (by decide)) (fun h => absurd h (by decide)) (fun h => absurd h (by decide)) c 5 5 rfl rfl (credit_any _)) $$ [H]
  · isplitr; · iexact HC
    iexact H
  iintro H
  iapply (wait_step part fin K 3 σI 15 15 15 (fun h => absurd h (by decide)) (fun h => absurd h (by decide)) (fun h => absurd h (by decide)) c 6 6 rfl rfl (credit_any _)) $$ [H]
  · isplitr; · iexact HC
    iexact H
  iintro H
  iapply (wait_step part fin K 3 σI 15 15 15 (fun h => absurd h (by decide)) (fun h => absurd h (by decide)) (fun h => absurd h (by decide)) c 7 7 rfl rfl (credit_any _)) $$ [H]
  · isplitr; · iexact HC
    iexact H
  iintro H
  simp only [wp_ret]
  imodintro
  iapply Hk
  iexact H

theorem part34_spec (v851 : BitVec 32) (v865 : BitVec 32) (v879 : BitVec 32) (v893 : BitVec 32) {Q : (BitVec 32) → sProp 𝕄} :
    iprop(ctx part fin K ∗ waitSt part fin 3 σI (owe c 15 15 15) c 8) ⊢ iprop((∀ e, (waitSt part fin 3 σI (owe c 15 15 15) c 12) -∗ Q e)
      -∗ wp frame (wpE (defs₀ (F := F)) 𝒱₀ (c : Thread nD τ) none) Set.univ (run (k0_part34 (F := F)) c v851 v865 v879 v893) Q) := by
  unfold run
  rw [k0_part34_eq_skeleton]
  unfold k0_part34_skel
  simp only [semSignalWord, semWaitWord, Prog.lift, Prog.bind_op, Prog.bind_ret, Prog.pure_eq_ret, wp_deviceId]
  iintro ⟨#HC, H⟩ Hk
  iapply (wait_step part fin K 3 σI 15 15 15 (fun h => absurd h (by decide)) (fun h => absurd h (by decide)) (fun h => absurd h (by decide)) c 8 8 rfl rfl (credit_any _)) $$ [H]
  · isplitr; · iexact HC
    iexact H
  iintro H
  iapply (wait_step part fin K 3 σI 15 15 15 (fun h => absurd h (by decide)) (fun h => absurd h (by decide)) (fun h => absurd h (by decide)) c 9 9 rfl rfl (credit_any _)) $$ [H]
  · isplitr; · iexact HC
    iexact H
  iintro H
  iapply (wait_step part fin K 3 σI 15 15 15 (fun h => absurd h (by decide)) (fun h => absurd h (by decide)) (fun h => absurd h (by decide)) c 10 10 rfl rfl (credit_any _)) $$ [H]
  · isplitr; · iexact HC
    iexact H
  iintro H
  iapply (wait_step part fin K 3 σI 15 15 15 (fun h => absurd h (by decide)) (fun h => absurd h (by decide)) (fun h => absurd h (by decide)) c 11 11 rfl rfl (credit_any _)) $$ [H]
  · isplitr; · iexact HC
    iexact H
  iintro H
  simp only [wp_ret]
  imodintro
  iapply Hk
  iexact H

theorem part35_spec (v907 : BitVec 32) (v921 : BitVec 32) (v1030 : BitVec 32) {Q : (PUnit) → sProp 𝕄} :
    iprop(ctx part fin K ∗ waitSt part fin 3 σI (owe c 15 15 15) c 12 ∗ pre 2 σI c) ⊢ iprop(((waitSt part fin 2 σI (owe c 15 15 15) c 1 ∗ got part fin 3 σI c) -∗ Q ⟨⟩)
      -∗ wp frame (wpE (defs₀ (F := F)) 𝒱₀ (c : Thread nD τ) none) Set.univ (run (k0_part35 (F := F)) c v907 v921 v1030) Q) := by
  unfold run
  rw [k0_part35_eq_skeleton]
  unfold k0_part35_skel
  simp only [semSignalWord, semWaitWord, Prog.lift, Prog.bind_op, Prog.bind_ret, Prog.pure_eq_ret, wp_deviceId]
  iintro ⟨#HC, H, Hx⟩ Hk
  iapply (wait_step part fin K 3 σI 15 15 15 (fun h => absurd h (by decide)) (fun h => absurd h (by decide)) (fun h => absurd h (by decide)) c 12 12 rfl rfl (credit_any _)) $$ [H]
  · isplitr; · iexact HC
    iexact H
  iintro H
  iapply (wait_step part fin K 3 σI 15 15 15 (fun h => absurd h (by decide)) (fun h => absurd h (by decide)) (fun h => absurd h (by decide)) c 13 13 rfl rfl (credit_any _)) $$ [H]
  · isplitr; · iexact HC
    iexact H
  iintro H
  iapply (wait_step part fin K 3 σI 15 15 15 (fun h => absurd h (by decide)) (fun h => absurd h (by decide)) (fun h => absurd h (by decide)) c 14 14 rfl rfl (credit_any _)) $$ [H]
  · isplitr; · iexact HC
    iexact H
  iintro H
  ihave Ht := (wait_next part fin c 3 2 σI σI (owe c 15 15 15)) $$ [H Hx]
  · isplitl [H] <;> iassumption
  icases Ht with ⟨H, Hy⟩
  iapply (wait_step part fin K 2 σI 15 15 15 (fun h => absurd h (by decide)) (fun h => absurd h (by decide)) (fun h => absurd h (by decide)) c 0 0 rfl rfl (credit_any _)) $$ [H]
  · isplitr; · iexact HC
    iexact H
  iintro H
  simp only [wp_ret]
  imodintro
  iapply Hk
  isplitl [H] <;> iassumption

theorem part36_spec {Q : (PUnit) → sProp 𝕄} :
    iprop(ctx part fin K ∗ waitSt part fin 2 σI (owe c 15 15 15) c 1) ⊢ iprop(((waitSt part fin 2 σI (owe c 15 15 15) c 5) -∗ Q ⟨⟩)
      -∗ wp frame (wpE (defs₀ (F := F)) 𝒱₀ (c : Thread nD τ) none) Set.univ (run (k0_part36 (F := F)) c) Q) := by
  unfold run
  rw [k0_part36_eq_skeleton]
  unfold k0_part36_skel
  simp only [semSignalWord, semWaitWord, Prog.lift, Prog.bind_op, Prog.bind_ret, Prog.pure_eq_ret, wp_deviceId]
  iintro ⟨#HC, H⟩ Hk
  iapply (wait_step part fin K 2 σI 15 15 15 (fun h => absurd h (by decide)) (fun h => absurd h (by decide)) (fun h => absurd h (by decide)) c 1 1 rfl rfl (credit_any _)) $$ [H]
  · isplitr; · iexact HC
    iexact H
  iintro H
  iapply (wait_step part fin K 2 σI 15 15 15 (fun h => absurd h (by decide)) (fun h => absurd h (by decide)) (fun h => absurd h (by decide)) c 2 2 rfl rfl (credit_any _)) $$ [H]
  · isplitr; · iexact HC
    iexact H
  iintro H
  iapply (wait_step part fin K 2 σI 15 15 15 (fun h => absurd h (by decide)) (fun h => absurd h (by decide)) (fun h => absurd h (by decide)) c 3 3 rfl rfl (credit_any _)) $$ [H]
  · isplitr; · iexact HC
    iexact H
  iintro H
  iapply (wait_step part fin K 2 σI 15 15 15 (fun h => absurd h (by decide)) (fun h => absurd h (by decide)) (fun h => absurd h (by decide)) c 4 4 rfl rfl (credit_any _)) $$ [H]
  · isplitr; · iexact HC
    iexact H
  iintro H
  simp only [wp_ret]
  imodintro
  iapply Hk
  iexact H

theorem part37_spec {Q : (PUnit) → sProp 𝕄} :
    iprop(ctx part fin K ∗ waitSt part fin 2 σI (owe c 15 15 15) c 5) ⊢ iprop(((waitSt part fin 2 σI (owe c 15 15 15) c 9) -∗ Q ⟨⟩)
      -∗ wp frame (wpE (defs₀ (F := F)) 𝒱₀ (c : Thread nD τ) none) Set.univ (run (k0_part37 (F := F)) c) Q) := by
  unfold run
  rw [k0_part37_eq_skeleton]
  unfold k0_part37_skel
  simp only [semSignalWord, semWaitWord, Prog.lift, Prog.bind_op, Prog.bind_ret, Prog.pure_eq_ret, wp_deviceId]
  iintro ⟨#HC, H⟩ Hk
  iapply (wait_step part fin K 2 σI 15 15 15 (fun h => absurd h (by decide)) (fun h => absurd h (by decide)) (fun h => absurd h (by decide)) c 5 5 rfl rfl (credit_any _)) $$ [H]
  · isplitr; · iexact HC
    iexact H
  iintro H
  iapply (wait_step part fin K 2 σI 15 15 15 (fun h => absurd h (by decide)) (fun h => absurd h (by decide)) (fun h => absurd h (by decide)) c 6 6 rfl rfl (credit_any _)) $$ [H]
  · isplitr; · iexact HC
    iexact H
  iintro H
  iapply (wait_step part fin K 2 σI 15 15 15 (fun h => absurd h (by decide)) (fun h => absurd h (by decide)) (fun h => absurd h (by decide)) c 7 7 rfl rfl (credit_any _)) $$ [H]
  · isplitr; · iexact HC
    iexact H
  iintro H
  iapply (wait_step part fin K 2 σI 15 15 15 (fun h => absurd h (by decide)) (fun h => absurd h (by decide)) (fun h => absurd h (by decide)) c 8 8 rfl rfl (credit_any _)) $$ [H]
  · isplitr; · iexact HC
    iexact H
  iintro H
  simp only [wp_ret]
  imodintro
  iapply Hk
  iexact H

theorem part38_spec {Q : (PUnit) → sProp 𝕄} :
    iprop(ctx part fin K ∗ waitSt part fin 2 σI (owe c 15 15 15) c 9) ⊢ iprop(((waitSt part fin 2 σI (owe c 15 15 15) c 13) -∗ Q ⟨⟩)
      -∗ wp frame (wpE (defs₀ (F := F)) 𝒱₀ (c : Thread nD τ) none) Set.univ (run (k0_part38 (F := F)) c) Q) := by
  unfold run
  rw [k0_part38_eq_skeleton]
  unfold k0_part38_skel
  simp only [semSignalWord, semWaitWord, Prog.lift, Prog.bind_op, Prog.bind_ret, Prog.pure_eq_ret, wp_deviceId]
  iintro ⟨#HC, H⟩ Hk
  iapply (wait_step part fin K 2 σI 15 15 15 (fun h => absurd h (by decide)) (fun h => absurd h (by decide)) (fun h => absurd h (by decide)) c 9 9 rfl rfl (credit_any _)) $$ [H]
  · isplitr; · iexact HC
    iexact H
  iintro H
  iapply (wait_step part fin K 2 σI 15 15 15 (fun h => absurd h (by decide)) (fun h => absurd h (by decide)) (fun h => absurd h (by decide)) c 10 10 rfl rfl (credit_any _)) $$ [H]
  · isplitr; · iexact HC
    iexact H
  iintro H
  iapply (wait_step part fin K 2 σI 15 15 15 (fun h => absurd h (by decide)) (fun h => absurd h (by decide)) (fun h => absurd h (by decide)) c 11 11 rfl rfl (credit_any _)) $$ [H]
  · isplitr; · iexact HC
    iexact H
  iintro H
  iapply (wait_step part fin K 2 σI 15 15 15 (fun h => absurd h (by decide)) (fun h => absurd h (by decide)) (fun h => absurd h (by decide)) c 12 12 rfl rfl (credit_any _)) $$ [H]
  · isplitr; · iexact HC
    iexact H
  iintro H
  simp only [wp_ret]
  imodintro
  iapply Hk
  iexact H

end Cert.Mesh

end
-- ==== Proof.Pieces.lean ====
/-
# Handing over from phase to phase

What a device starts with, and how the contents of its buffers and its tokens are dealt to the phases of the body and put
together again.
-/
module

public import proofs.«01_k».proof.Proof.Run

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → OutBuf F) (fin : OutBuf F) (K : Dev nD × Option (Fin 4 × Fin 15) → ℕ) (c : Dev nD)

/-! ## What a device starts with -/

/-- Positions of the cells of kind `a` before and after their round. -/
def pos (a : Fin 4) (c : Dev nD) : sProp 𝕄 := bigSep Finset.univ fun i => atPos ER (dCell c a i) 0 ∅ 0
def posE (a : Fin 4) (c : Dev nD) : sProp 𝕄 := bigSep Finset.univ fun i => atPos ER (dCell c a i) 1 ∅ 0

/-- The tokens device `c` signals and copies with. -/
def toksB (c : Dev nD) : sProp 𝕄 := bigSep Finset.univ fun i => dutyTok ER (barCell (up c i)) 0 i
def toksR (c : Dev nD) : sProp 𝕄 :=
  bigSep Finset.univ fun i => iprop(dutyTok ER (dCell c 0 i) 0 0 ∗ dutyTok ER (dCell (up c i) 1 i.rev) 0 0)
def toksA (c : Dev nD) : sProp 𝕄 :=
  bigSep Finset.univ fun i => iprop(dutyTok ER (dCell c 2 i) 0 0 ∗ dutyTok ER (dCell (up c i) 3 i) 0 0)

/-- The output rows of the other devices' blocks that device `c` holds. -/
def others (f : Fin 15 → OutBuf F) (c : Dev nD) : sProp 𝕄 := bigSep Finset.univ fun i => outAt c (up c i) fullShare (f i)

theorem bigSep_option (Φ : Option (Fin 15) → sProp 𝕄) :
    bigSep Finset.univ Φ = iprop(Φ none ∗ bigSep Finset.univ fun i => Φ (some i)) := by
  have h : (Finset.univ : Finset (Option (Fin 15))) = insert none (Finset.univ.map ⟨some, Option.some_injective _⟩) := by decide
  rw [h, bigSep_insert (by simp), bigSep_map]; rfl

/-- The whole output is the device's own rows and the others'. -/
theorem out_split (f : OutBuf F) : (outPt c f : sProp 𝕄) = iprop(outAt c c fullShare f ∗ others (fun _ => f) c) := by
  show ((oM.view.loc (c : Thread nD τ)) ↦[Finset.univ]{fullShare} f : sProp 𝕄) = _
  rw [out_blocks, bigSep_univ_equiv (around c) (fun a => outAt c a fullShare f), bigSep_option]; rfl

/-! ## Phases -/

theorem pre_intro (a : Fin 4) : iprop(crs a c ∗ pos a c) ⊢ (pre a σI c : sProp 𝕄) := by
  unfold crs pos pre
  exact Entails.of_eq (bigSep_sep' _ _ _).symm

theorem pre_intro_rev : iprop(crs 1 c ∗ pos 1 c) ⊢ (pre 1 Fin.rev c : sProp 𝕄) := by
  unfold crs pos pre
  rw [← bigSep_sep', bigSep_univ_equiv Fin.revPerm]
  exact Entails.of_eq rfl

theorem slot_any (i : Fin 15) (f : SBuf F) : (slotAt c i f : sProp 𝕄) ⊢ iprop(∃ f, slotAt (F := F) c i f) := by
  iintro H
  iexists f
  iexact H

theorem slots_any (f : SBuf F) : (rcvPt c f : sProp 𝕄) ⊢ bigSep Finset.univ fun i => iprop(∃ f, slotAt (F := F) c i f) :=
  (Entails.of_eq (slot_blocks c f)).trans (bigSep_mono fun i _ => slot_any c i f)

theorem sig_start : iprop(owing c (owe c 0 0 0) ∗ toksB c ∗ ∃ f, rcvPt c f) ⊢ (sigSt c 0 : sProp 𝕄) := by
  unfold sigSt toksB
  rw [rem_zero, bigSep_sep']
  iintro ⟨HO, Ht, %f, Hs⟩
  isplitl [HO]; · iexact HO
  isplitl [Ht]; · iexact Ht
  iapply (slots_any c f)
  iexact Hs

theorem rs_start : iprop(owing c (owe c 15 0 0) ∗ (bigSep Finset.univ fun i : Fin 15 => iprop(∃ f, slotAt (F := F) (up c i) i.rev f))
      ∗ toksR c ∗ outPt c (part c))
    ⊢ iprop(rsSt part c 0 ∗ outAt c c fullShare (part c)) := by
  unfold rsSt toksR
  rw [rem_zero, done_zero, bigSep_empty, out_split]
  unfold others
  iintro ⟨HO, Hs, Ht, Hown, Ho⟩
  isplitr [Hown]
  · isplitl [HO]; · iexact HO
    isplitr []
    · iapply (Entails.of_eq (show iprop((bigSep Finset.univ fun i : Fin 15 => iprop(∃ f, slotAt (F := F) (up c i) i.rev f))
          ∗ (bigSep Finset.univ fun i => outAt c (up c i) fullShare (part c))
          ∗ (bigSep Finset.univ fun i => iprop(dutyTok ER (dCell c 0 i) 0 0 ∗ dutyTok ER (dCell (up c i) 1 i.rev) 0 0))) = _ by
        rw [← bigSep_sep', ← bigSep_sep']))
      isplitl [Hs]; · iexact Hs
      isplitl [Ho] <;> iassumption
    · iempintro
  iexact Hown

theorem rs_got : got part fin 1 Fin.rev c ⊢ iprop(posE 1 c ∗ rcvPt c (commC part c)
    ∗ bigSep Finset.univ fun i => outAt (up c i) c fullShare (part (up c i))) := by
  unfold got posE
  show _ ⊢ iprop(_ ∗ ((sM.view.loc (c : Thread nD τ)) ↦[Finset.univ]{fullShare} commC part c) ∗ _)
  rw [slot_blocks, ← bigSep_sep', ← bigSep_sep', bigSep_univ_equiv Fin.revPerm (fun i => iprop(atPos ER (dCell c 1 i) 1 ∅ 0 ∗ _))]
  exact Entails.of_eq rfl

theorem got_id (a : Fin 4) : got part fin a σI c ⊢ iprop(posE a c ∗ bigSep Finset.univ fun i => xferPay part fin c a i) := by
  unfold got posE
  exact Entails.of_eq (bigSep_sep' _ _ _)

theorem ag_start : iprop(owing c (owe c 15 15 0) ∗ outAt c c fullShare fin
      ∗ (bigSep Finset.univ fun i => iprop(∃ f, outAt (F := F) (up c i) c fullShare f)) ∗ toksA c) ⊢ agSt fin c 0 := by
  unfold agSt toksA
  rw [rem_zero, done_zero, bigSep_empty]
  rw [bigSep_sep' Finset.univ (fun i => iprop(∃ f, outAt (F := F) (up c i) c fullShare f))
    (fun i => iprop(dutyTok ER (dCell c 2 i) 0 0 ∗ dutyTok ER (dCell (up c i) 3 i) 0 0))]
  iintro ⟨HO, Hown, Ho, Ht⟩
  isplitl [HO]; · iexact HO
  isplitl [Hown]; · iexact Hown
  isplitr []
  · isplitl [Ho] <;> iassumption
  iempintro

/-- The shares the fifteen copies read with, and what is left, are the whole of the device's own rows. -/
theorem own_shares (f : OutBuf F) (n : ℕ) (hn : n ≤ 15) :
    iprop(outAt c c (restQ n) f ∗ bigSep (done n) fun i => outAt c c (restQ i.val).left f) ⊢ (outAt c c fullShare f : sProp 𝕄) := by
  induction n with
  | zero => rw [done_zero, bigSep_empty]; iintro ⟨H, -⟩; iexact H
  | succ n ih =>
    have h : done (n + 1) = done ((⟨n, hn⟩ : Fin 15).val + 1) := rfl
    rw [h, done_step]
    iintro ⟨H, Hl, Hd⟩
    iapply (ih (by omega))
    isplitr [Hd]
    · iapply (outAt_halve c c n f).2
      isplitl [Hl] <;> iassumption
    iexact Hd

theorem out_join : iprop(outAt c c (restQ 15) fin ∗ (bigSep Finset.univ fun i => xferPay part fin c 2 i)
      ∗ bigSep Finset.univ fun i => xferPay part fin c 3 i) ⊢ (outPt c fin : sProp 𝕄) := by
  rw [out_split]
  iintro ⟨Hown, Hs, Hr⟩
  isplitl [Hown Hs]
  · iapply (own_shares c fin 15 (le_refl _))
    rw [done_last]
    isplitl [Hown]; · iexact Hown
    iexact Hs
  · unfold others
    rw [bigSep_univ_equiv Fin.revPerm (fun i => outAt c (up c i) fullShare fin)]
    iexact Hr

theorem close_all (a : Fin 4) : iprop(ctx part fin K ∗ posE a c) ⊢ (|={Set.univ}=> bigSep Finset.univ fun i => semVal (dCell c a i) 0 : sProp 𝕄) := by
  unfold posE
  exact (bigSep_with_persistent (fun i _ => close_x part fin K c a i)).trans (bigSep_fupd _ _)

end Cert.Mesh

end
-- ==== Proof.Body.lean ====
/-
# The body

One device's run of the body, part after part: from what the launch deals it to its closed cells and the final contents of
its output.
-/
module

public import proofs.«01_k».proof.Proof.PartsA
public import proofs.«01_k».proof.Proof.PartsB
public import proofs.«01_k».proof.Proof.PartsC
public import proofs.«01_k».proof.Proof.PartsD
public import proofs.«01_k».proof.Proof.Pieces

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → OutBuf F) (K : Dev nD × Option (Fin 4 × Fin 15) → ℕ) (c : Dev nD)

/-- The ghost state and credits device `c` starts with, beside the shared records. -/
def devStart (c : Dev nD) : sProp 𝕄 :=
  iprop(atPos ER (barCell c) 0 ∅ 0 ∗ toksB c ∗ toksR c ∗ toksA c ∗ pos 0 c ∗ pos 1 c ∗ pos 2 c ∗ pos 3 c
    ∗ cred (tallyAt (barCell c) () 15) ∗ crs 1 c ∗ crs 3 c)

/-- The cells it leaves at zero. -/
def zeros (a : Fin 4) (c : Dev nD) : sProp 𝕄 := bigSep Finset.univ fun i => semVal (dCell c a i) 0
def devEnd (c : Dev nD) : sProp 𝕄 := iprop(semVal (barCell c) 0 ∗ zeros 0 c ∗ zeros 1 c ∗ zeros 2 c ∗ zeros 3 c)

theorem landed_any (f : Dev nD → OutBuf F) : (bigSep Finset.univ fun i => outAt (up c i) c fullShare (f (up c i)) : sProp 𝕄)
    ⊢ bigSep Finset.univ fun i => iprop(∃ f, outAt (F := F) (up c i) c fullShare f) := by
  have h : ∀ i : Fin 15, (outAt (up c i) c fullShare (f (up c i)) : sProp 𝕄) ⊢ iprop(∃ f, outAt (F := F) (up c i) c fullShare f) := fun i => by
    iintro H
    iexists (f (up c i))
    iexact H
  exact bigSep_mono fun i _ => h i

set_option maxRecDepth 16000
set_option maxHeartbeats 4000000

theorem body_run (x : Vec F S1x256x1024 .bf16) (wq wo wk wv : Vec F S1024x1024 .bf16) (hp : part c = partOf x wq wo wk wv) (f₀ : OutBuf F)
    (Kt : PUnit → sProp 𝕄) :
    iprop(ctx part (finOf part) K ∗ devStart c ∗ owing c (owe c 0 0 0) ∗ (∃ f, rcvPt c f)
        ∗ xPt c x ∗ wqPt c wq ∗ woPt c wo ∗ wkPt c wk ∗ wvPt c wv ∗ outPt c f₀
        ∗ ((devEnd c ∗ owing c 0 ∗ (∃ f, rcvPt c f) ∗ xPt c x ∗ wqPt c wq ∗ woPt c wo ∗ wkPt c wk ∗ wvPt c wv ∗ outPt c (finOf part)) -∗ Kt ⟨⟩))
      ⊢ wp frame (wpE (defs₀ (F := F)) 𝒱₀ (c : Thread nD τ) none) Set.univ (run (cc0_body (F := F))) Kt := by
  unfold run
  rw [cc0_body_eq_skeleton]
  unfold cc0_body_skel devStart
  simp only [partOf] at hp
  have hout : ∀ g, g = part c → (outPt c g : sProp 𝕄) ⊢ outPt c (part c) := fun g hg => by rw [hg]
  iintro ⟨#HC, ⟨Hb, HtB, HtR, HtA, Hp0, Hp1, Hp2, Hp3, Hcb, Hc1, Hc3⟩, HO, Hr, Hx, Hq, Ho, Hkk, Hv, Hout, Hk⟩
  ihave H := (sig_start c) $$ [HO HtB Hr]
  · isplitl [HO]; · iexact HO
    isplitl [HtB] <;> iassumption
  rw [wp_bind]
  iapply (part1_spec part (finOf part) K c) $$ [H]
  · isplitr; · iexact HC
    iexact H
  iintro %v2 %v24 %e1 H
  rw [wp_bind]
  iapply (part2_spec part (finOf part) K c _ _ _) $$ [H]
  · isplitr; · iexact HC
    iexact H
  iintro %a1 %a2 H
  rw [wp_bind]
  iapply (part3_spec part (finOf part) K c _ _ _ x wq wk wv) $$ [Hcb Hb H Hx Hq Hkk Hv]
  · isplitr; · iexact HC
    isplitl [Hcb]; · iexact Hcb
    isplitl [Hb]; · iexact Hb
    isplitl [H]; · iexact H
    isplitl [Hx]; · iexact Hx
    isplitl [Hq]; · iexact Hq
    isplitl [Hkk] <;> iassumption
  iintro ⟨Hbar, Hx, Hq, Hkk, Hv⟩
  rw [wp_bind]
  iapply (part4_spec c _ _ _ _ wo) $$ Ho
  iintro Ho
  rw [wp_bind]
  iapply (part5_spec c _ _ _ _ _ wo) $$ Ho
  iintro Ho
  rw [wp_bind]
  iapply (part6_spec c _ _ _ _ _ _ wo) $$ Ho
  iintro Ho
  rw [wp_bind]
  iapply (part7_spec c _ _ _ _ _ _ _ wo f₀) $$ [Ho Hout]
  · isplitl [Ho] <;> iassumption
  iintro %b0 %b1 ⟨Ho, Hout⟩
  ihave Hout := (hout _ hp.symm) $$ Hout
  unfold barDone
  icases Hbar with ⟨HO, Hb, Hslots⟩
  ihave Hrs := (rs_start part c) $$ [HO Hslots HtR Hout]
  · isplitl [HO]; · iexact HO
    isplitl [Hslots]; · iexact Hslots
    isplitl [HtR] <;> iassumption
  icases Hrs with ⟨H, Hown⟩
  rw [wp_bind]
  iapply (part8_spec part (finOf part) K c _ _ _) $$ [H]
  · isplitr; · iexact HC
    iexact H
  iintro %n8_0 %n8_1 %n8_2 %n8_3 H
  rw [wp_bind]
  iapply (part9_spec part (finOf part) K c _ _ _) $$ [H]
  · isplitr; · iexact HC
    iexact H
  iintro %n9_0 %n9_1 H
  rw [wp_bind]
  iapply (part10_spec part (finOf part) K c _) $$ [H]
  · isplitr; · iexact HC
    iexact H
  iintro %n10_0 %n10_1 %n10_2 H
  rw [wp_bind]
  iapply (part11_spec part (finOf part) K c _ _) $$ [H]
  · isplitr; · iexact HC
    iexact H
  iintro %n11_0 %n11_1 %n11_2 H
  rw [wp_bind]
  iapply (part12_spec part (finOf part) K c _ _) $$ [H]
  · isplitr; · iexact HC
    iexact H
  iintro %n12_0 %n12_1 H
  rw [wp_bind]
  iapply (part13_spec part (finOf part) K c _) $$ [H]
  · isplitr; · iexact HC
    iexact H
  iintro %n13_0 %n13_1 H
  ihave Hpre := (pre_intro_rev c) $$ [Hc1 Hp1]
  · isplitl [Hc1] <;> iassumption
  rw [wp_bind]
  iapply (part14_spec part (finOf part) K c _ _ _) $$ [H Hpre]
  · isplitr; · iexact HC
    isplitl [H] <;> iassumption
  iintro %n14_0 ⟨H, Hc0⟩
  rw [wp_bind]
  iapply (part15_spec part (finOf part) K c _ _ _) $$ [H]
  · isplitr; · iexact HC
    iexact H
  iintro H
  rw [wp_bind]
  iapply (part16_spec part (finOf part) K c _ _ _ _) $$ [H]
  · isplitr; · iexact HC
    iexact H
  iintro H
  rw [wp_bind]
  iapply (part17_spec part (finOf part) K c _ _ _) $$ [H]
  · isplitr; · iexact HC
    iexact H
  iintro H
  rw [wp_bind]
  iapply (part18_spec part (finOf part) K c _ _ _ _) $$ [H]
  · isplitr; · iexact HC
    iexact H
  iintro %n18_0 H
  ihave Hg := (wait_end part (finOf part) c 1 Fin.rev (owe c 15 15 0)) $$ H
  icases Hg with ⟨HO, Hg⟩
  ihave Hg' := (rs_got part (finOf part) c) $$ Hg
  icases Hg' with ⟨Hp1, Hr, Hland⟩
  rw [wp_bind]
  iapply (part19_spec c _ (part c) (commC part c)) $$ [Hown Hr]
  · isplitl [Hown] <;> iassumption
  iintro ⟨Hown, Hr⟩
  rw [wp_bind]
  iapply (part20_spec part c _) $$ [Hown Hr]
  · isplitl [Hown] <;> iassumption
  iintro ⟨Hown, Hr⟩
  ihave Hpre := (pre_intro c 0) $$ [Hc0 Hp0]
  · isplitl [Hc0] <;> iassumption
  ihave H := (wait_start part (finOf part) c 0 σI (owe c 15 15 0)) $$ [HO Hpre]
  · isplitl [HO] <;> iassumption
  rw [wp_bind]
  iapply (part21_spec part (finOf part) K c) $$ [H]
  · isplitr; · iexact HC
    iexact H
  iintro H
  rw [wp_bind]
  iapply (part22_spec part (finOf part) K c) $$ [H]
  · isplitr; · iexact HC
    iexact H
  iintro H
  rw [wp_bind]
  iapply (part23_spec part (finOf part) K c) $$ [H]
  · isplitr; · iexact HC
    iexact H
  iintro H
  rw [wp_bind]
  iapply (part24_spec part (finOf part) K c _) $$ [H]
  · isplitr; · iexact HC
    iexact H
  iintro %n24_0 %n24_1 %n24_2 H
  ihave Hg := (wait_end part (finOf part) c 0 σI (owe c 15 15 0)) $$ H
  icases Hg with ⟨HO, Hg⟩
  ihave Hg' := (got_id part (finOf part) c 0) $$ Hg
  icases Hg' with ⟨Hp0, -⟩
  ihave Hany := (landed_any c part) $$ Hland
  ihave H := (ag_start (finOf part) c) $$ [HO Hown Hany HtA]
  · isplitl [HO]; · iexact HO
    isplitl [Hown]; · iexact Hown
    isplitl [Hany] <;> iassumption
  rw [wp_bind]
  iapply (part25_spec part (finOf part) K c _ _ _) $$ [H]
  · isplitr; · iexact HC
    iexact H
  iintro %n25_0 %n25_1 H
  rw [wp_bind]
  iapply (part26_spec part (finOf part) K c _) $$ [H]
  · isplitr; · iexact HC
    iexact H
  iintro %n26_0 %n26_1 H
  rw [wp_bind]
  iapply (part27_spec part (finOf part) K c _) $$ [H]
  · isplitr; · iexact HC
    iexact H
  iintro %n27_0 %n27_1 %n27_2 H
  rw [wp_bind]
  iapply (part28_spec part (finOf part) K c _ _) $$ [H]
  · isplitr; · iexact HC
    iexact H
  iintro %n28_0 %n28_1 H
  rw [wp_bind]
  iapply (part29_spec part (finOf part) K c _ _) $$ [H]
  · isplitr; · iexact HC
    iexact H
  iintro %n29_0 %n29_1 H
  rw [wp_bind]
  iapply (part30_spec part (finOf part) K c _) $$ [H]
  · isplitr; · iexact HC
    iexact H
  iintro %n30_0 %n30_1 H
  ihave Hpre := (pre_intro c 3) $$ [Hc3 Hp3]
  · isplitl [Hc3] <;> iassumption
  rw [wp_bind]
  iapply (part31_spec part (finOf part) K c _ _ _) $$ [H Hpre]
  · isplitr; · iexact HC
    isplitl [H] <;> iassumption
  iintro %n31_0 ⟨H, Hc2, Hown⟩
  rw [wp_bind]
  iapply (part32_spec part (finOf part) K c _ _ _) $$ [H]
  · isplitr; · iexact HC
    iexact H
  iintro %n32_0 H
  rw [wp_bind]
  iapply (part33_spec part (finOf part) K c _ _ _ _ _) $$ [H]
  · isplitr; · iexact HC
    iexact H
  iintro H
  rw [wp_bind]
  iapply (part34_spec part (finOf part) K c _ _ _ _) $$ [H]
  · isplitr; · iexact HC
    iexact H
  iintro %n34_0 H
  ihave Hpre := (pre_intro c 2) $$ [Hc2 Hp2]
  · isplitl [Hc2] <;> iassumption
  rw [wp_bind]
  iapply (part35_spec part (finOf part) K c _ _ _) $$ [H Hpre]
  · isplitr; · iexact HC
    isplitl [H] <;> iassumption
  iintro ⟨H, Hg3⟩
  rw [wp_bind]
  iapply (part36_spec part (finOf part) K c) $$ [H]
  · isplitr; · iexact HC
    iexact H
  iintro H
  rw [wp_bind]
  iapply (part37_spec part (finOf part) K c) $$ [H]
  · isplitr; · iexact HC
    iexact H
  iintro H
  rw [wp_bind]
  iapply (part38_spec part (finOf part) K c) $$ [H]
  · isplitr; · iexact HC
    iexact H
  iintro H
  simp only [semSignalWord, semWaitWord, Prog.lift, Prog.bind_op, Prog.bind_ret, Prog.pure_eq_ret, wp_deviceId]
  iapply (wait_step part (finOf part) K 2 σI 15 15 15 (fun h => absurd h (by decide)) (fun h => absurd h (by decide)) (fun h => absurd h (by decide)) c 13 13 rfl rfl (credit_any _)) $$ [H]
  · isplitr; · iexact HC
    iexact H
  iintro H
  iapply (wait_step part (finOf part) K 2 σI 15 15 15 (fun h => absurd h (by decide)) (fun h => absurd h (by decide)) (fun h => absurd h (by decide)) c 14 14 rfl rfl (credit_any _)) $$ [H]
  · isplitr; · iexact HC
    iexact H
  iintro H
  ihave Hg := (wait_end part (finOf part) c 2 σI (owe c 15 15 15)) $$ H
  icases Hg with ⟨HO, Hg2⟩
  rw [owe_done]
  ihave Hg3' := (got_id part (finOf part) c 3) $$ Hg3
  icases Hg3' with ⟨Hp3, Hy3⟩
  ihave Hg2' := (got_id part (finOf part) c 2) $$ Hg2
  icases Hg2' with ⟨Hp2, Hy2⟩
  ihave Hout := (out_join part (finOf part) c) $$ [Hown Hy2 Hy3]
  · isplitl [Hown]; · iexact Hown
    isplitl [Hy2] <;> iassumption
  imod (close_bar part (finOf part) K c) $$ [Hb] with Hb
  · isplitr; · iexact HC
    iexact Hb
  imod (close_all part (finOf part) K c 0) $$ [Hp0] with Hp0
  · isplitr; · iexact HC
    iexact Hp0
  imod (close_all part (finOf part) K c 1) $$ [Hp1] with Hp1
  · isplitr; · iexact HC
    iexact Hp1
  imod (close_all part (finOf part) K c 2) $$ [Hp2] with Hp2
  · isplitr; · iexact HC
    iexact Hp2
  imod (close_all part (finOf part) K c 3) $$ [Hp3] with Hp3
  · isplitr; · iexact HC
    iexact Hp3
  simp only [wp_ret]
  imodintro
  iapply Hk
  unfold devEnd zeros
  isplitl [Hb Hp0 Hp1 Hp2 Hp3]
  · isplitl [Hb]; · iexact Hb
    isplitl [Hp0]; · iexact Hp0
    isplitl [Hp1]; · iexact Hp1
    isplitl [Hp2] <;> iassumption
  isplitl [HO]; · iexact HO
  isplitl [Hr]; · iexists _; iexact Hr
  isplitl [Hx]; · iexact Hx
  isplitl [Hq]; · iexact Hq
  isplitl [Ho]; · iexact Ho
  isplitl [Hkk]; · iexact Hkk
  isplitl [Hv] <;> iassumption

end Cert.Mesh

end
-- ==== Proof.Dats.lean ====
/-
# The pipeline's data

The arrays' contents around the body, what the body takes and leaves, and the library's obligation on it.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ref : Loc nD τ sig) → Buf (Elt F) ref) (ρ : Dev nD → PrngReg)

/-- The memory the launch starts from. -/
def s₀ : MemSt nD τ sig (Elt F) := ⟨m, fun _ => 0, ρ⟩

/-! ## The staged inputs and what they make -/

def stX (c : Dev nD) : Vec F S1x256x1024 .bf16 := (win0_0.blk (0 : Fin 1)).view.read (Elt F) (m ((c : Thread nD τ).loc main_arg0))
def stQ (c : Dev nD) : Vec F S1024x1024 .bf16 := (win0_1.blk (0 : Fin 1)).view.read (Elt F) (m ((c : Thread nD τ).loc main_arg1))
def stO (c : Dev nD) : Vec F S1024x1024 .bf16 := (win0_2.blk (0 : Fin 1)).view.read (Elt F) (m ((c : Thread nD τ).loc main_arg4))
def stK (c : Dev nD) : Vec F S1024x1024 .bf16 := (win0_3.blk (0 : Fin 1)).view.read (Elt F) (m ((c : Thread nD τ).loc main_arg2))
def stV (c : Dev nD) : Vec F S1024x1024 .bf16 := (win0_4.blk (0 : Fin 1)).view.read (Elt F) (m ((c : Thread nD τ).loc main_arg3))

/-- Each device's part of the projection. -/
def parts (c : Dev nD) : OutBuf F := partOf (stX m c) (stQ m c) (stO m c) (stK m c) (stV m c)

/-- What every device's output ends as. -/
def outs : OutBuf F := finOf (parts m)

/-! ## The pipeline's proof data -/

/-- What device `c`'s body starts from, beside its receive buffer. -/
def start (c : Dev nD) : sProp 𝕄 := iprop((∃ K, ctx (parts m) (outs m) K) ∗ devStart c)

def Φ₀ (c : Dev nD) : sProp 𝕄 := iprop(start m c ∗ ∃ f, rcvPt (F := F) c f)
def Φ₁ (c : Dev nD) : sProp 𝕄 := iprop(devEnd c ∗ ∃ f, rcvPt (F := F) c f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stX m c
    | ⟨1, _⟩ => stQ m c
    | ⟨2, _⟩ => stO m c
    | ⟨3, _⟩ => stK m c
    | ⟨4, _⟩ => stV m c
    | ⟨5, _⟩ => outs m
  Φ t := match t with
    | ⟨0, _⟩ => Φ₀ m c
    | ⟨_ + 1, _⟩ => Φ₁ c
  q _ := fullShare
  owed t := match t with
    | ⟨0, _⟩ => owe c 0 0 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (stX m c) ∗ stg c cc0_stg1_0 (stQ m c) ∗ stg c cc0_stg2_0 (stO m c) ∗ stg c cc0_stg3_0 (stK m c)
    ∗ stg c cc0_stg4_0 (stV m c) ∗ stg c cc0_stg5_0 (outs m))

theorem sound_body (c : Dev nD) :
    bodyPre m ρ c ⊢ wp frame (wpE (defs₀ (F := F)) 𝒱₀ (c : Thread nD τ) none) Set.univ (run (cc0_body (F := F))) (fun _ => bodyPost m ρ c) := by
  unfold bodyPre Φ₀ start
  iintro ⟨⟨⟨⟨%K, #HC⟩, Hst⟩, Hr⟩, Ho, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩⟩
  have e0 : g0 = stX m c := by rw [h0]; unfold Dat.before; rw [if_pos (fetch0_0 t0_0)]; rfl
  have e1 : g1 = stQ m c := by rw [h1]; unfold Dat.before; rw [if_pos (fetch0_1 t0_0)]; rfl
  have e2 : g2 = stO m c := by rw [h2]; unfold Dat.before; rw [if_pos (fetch0_2 t0_0)]; rfl
  have e3 : g3 = stK m c := by rw [h3]; unfold Dat.before; rw [if_pos (fetch0_3 t0_0)]; rfl
  have e4 : g4 = stV m c := by rw [h4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = owe c 0 0 0 from rfl]
  iapply (body_run (parts m) K c (stX m c) (stQ m c) (stO m c) (stK m c) (stV m c) rfl g5)
  isplitr; · iexact HC
  isplitl [Hst]; · iexact Hst
  isplitl [HO]; · unfold owing; iexists W; iexact HO
  isplitl [Hr]; · iexact Hr
  isplitl [H0]; · iexact H0
  isplitl [H1]; · iexact H1
  isplitl [H2]; · iexact H2
  isplitl [H3]; · iexact H3
  isplitl [H4]; · iexact H4
  isplitl [H5]; · iexact H5
  iintro ⟨He, HO, Hr, H0, H1, H2, H3, H4, H5⟩
  unfold bodyPost Φ₁ Dat.owesAt Pipeline.owesWithin owing
  icases HO with ⟨%W', HO⟩
  rw [show (dats m ρ 0 c).owed t0_0.succ = 0 from rfl]
  isplitl [He Hr]
  · isplitl [He] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 16000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.Mesh

end
-- ==== Proof.Deal.lean ====
/-
# The deal

The ghost state of every device's cells at the launch, and its tokens dealt to the devices that pay with them.
-/
module

public import proofs.«01_k».proof.Proof.Pieces
public import Idealize.ShloMosaic.Lib.Pipeline.Launch
public import Idealize.ShloMosaic.Lib.Pipeline.Kit

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (part : Dev nD → OutBuf F) (fin : OutBuf F)

/-! ## The cells and the tokens minted -/

def allCells : Finset (GSem nD τ sig) := Finset.univ.map ⟨kcell, kcell_inj⟩

/-- A device's own cells' duty tokens as minted: fifteen at its barrier, one at each transfer cell. -/
abbrev tokOf (x : Dev nD × (Fin 15 ⊕ (Fin 4 × Fin 15))) : GSem nD τ sig × ℕ × Fin 15 :=
  match x.2 with
  | .inl i => (barCell x.1, 0, i)
  | .inr k => (kcell (x.1, some k), 0, 0)

theorem tokOf_inj : Function.Injective tokOf := by
  rintro ⟨c, i | k⟩ ⟨c', i' | k'⟩ h
  · have h1 : c = c' := tc_inj (congrArg (fun x : GSem nD τ sig × ℕ × Fin 15 => x.1.1) h)
    have h2 : i = i' := congrArg (fun x : GSem nD τ sig × ℕ × Fin 15 => x.2.2) h
    rw [h1, h2]
  · have h1 : SemLoc.reg barS = osem k' := congrArg (fun x : GSem nD τ sig × ℕ × Fin 15 => x.1.2) h
    cases h1
  · have h1 : osem k = SemLoc.reg barS := congrArg (fun x : GSem nD τ sig × ℕ × Fin 15 => x.1.2) h
    cases h1
  · have h1 : c = c' := tc_inj (congrArg (fun x : GSem nD τ sig × ℕ × Fin 15 => x.1.1) h)
    have h2 : k = k' := osem_inj (congrArg (fun x : GSem nD τ sig × ℕ × Fin 15 => x.1.2) h)
    rw [h1, h2]

def allToks : Finset (GSem nD τ sig × ℕ × Fin 15) := Finset.univ.map ⟨tokOf, tokOf_inj⟩

/-- The duty tokens of device `c`'s own cells. -/
def toks (c : Dev nD) : sProp 𝕄 :=
  iprop((bigSep Finset.univ fun i => dutyTok ER (barCell c) 0 i)
    ∗ bigSep Finset.univ fun k : Fin 4 × Fin 15 => dutyTok ER (kcell (c, some k)) 0 0)

/-- What the launch element deals device `c`. -/
def G (c : Dev nD) : sProp 𝕄 :=
  iprop((bigSep Finset.univ fun k => roundState ER (sched part fin) (kcell (c, k)) 0)
    ∗ (bigSep Finset.univ fun k => iprop(atPos ER (kcell (c, k)) 0 ∅ 0 ∗ reached ER (kcell (c, k)) 0)) ∗ toks c)

theorem fund_cells : BI.own (ER (initOf allCells allToks)) ⊢ (|==> bigSep Finset.univ (G part fin) : sProp 𝕄) := by
  have hX (Φ : GSem nD τ sig → sProp 𝕄) : bigSep allCells Φ
      = bigSep Finset.univ fun c : Dev nD => bigSep Finset.univ fun k : Option (Fin 4 × Fin 15) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum]; rfl
  iintro HX
  imod (Rounds.fund ER (sched part fin) allCells allToks) $$ HX with ⟨Hst, Hr, Hat, Htok⟩
  imodintro
  ihave Hst' := (Entails.of_eq (hX fun g => roundState ER (sched part fin) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem bigSep_opt (Φ : Option (Fin 4 × Fin 15) → sProp 𝕄) :
    bigSep Finset.univ Φ = iprop(Φ none ∗ bigSep Finset.univ fun k => Φ (some k)) := by
  have h : (Finset.univ : Finset (Option (Fin 4 × Fin 15))) = insert none (Finset.univ.map ⟨some, Option.some_injective _⟩) := by decide
  rw [h, bigSep_insert (by simp), bigSep_map]; rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_kinds (Φ : Fin 4 × Fin 15 → sProp 𝕄) :
    bigSep Finset.univ Φ = iprop((bigSep Finset.univ fun i => Φ (0, i)) ∗ (bigSep Finset.univ fun i => Φ (1, i))
      ∗ (bigSep Finset.univ fun i => Φ (2, i)) ∗ bigSep Finset.univ fun i => Φ (3, i)) := by
  rw [bigSep_univ_prod, bigSep_four]

abbrev ownS (c : Dev nD) : sProp 𝕄 := Pipeline.ownSems0 (Ix := Unit) (Name := ℕ) (U := UU) (Lvl := ℕ) (Val := Elt F) (τ := τ) osem c

theorem ownSems0_eq (c : Dev nD) : ownS (F := F) c = bigSep Finset.univ fun k : Fin 4 × Fin 15 => semVal (kcell (c, some k)) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(ownS (F := F) c ∗ unscopedSems0 c) ⊢ (bigSep Finset.univ fun k => semVal (kcell (c, k)) 0 : sProp 𝕄) := by
  rw [ownSems0_eq, unscopedSems0_eq, bigSep_opt]
  iintro ⟨HS, HB⟩
  isplitl [HB]; · iexact HB
  iexact HS

theorem core_alloc (c : Dev nD) :
    iprop(ownS (F := F) c ∗ unscopedSems0 c ∗ G part fin c)
      ⊢ |={Set.univ}=> iprop((bigSep Finset.univ fun k => iprop(∃ κ : ℕ, cellInv ER (sched part fin) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (sched part fin) (kcell (c, k)) 0)
      ⊢ (|={Set.univ}=> bigSep Finset.univ fun k => iprop(∃ κ : ℕ, cellInv ER (sched part fin) κ (kcell (c, k))) : sProp 𝕄) from by
        rw [← bigSep_sep']
        exact (bigSep_mono fun k _ => (Rounds.body_intro ER (sched part fin) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The moves of (device, offset) the deals follow. -/
def fwd : Dev nD × Fin 15 ≃ Dev nD × Fin 15 :=
  ⟨fun x => (up x.1 x.2, x.2), fun x => (up x.1 x.2.rev, x.2), fun x => Prod.ext (up_rev_up x.1 x.2) rfl,
    fun x => Prod.ext (up_up_rev x.1 x.2) rfl⟩
def swap : Dev nD × Fin 15 ≃ Dev nD × Fin 15 :=
  ⟨fun x => (up x.1 x.2, x.2.rev), fun x => (up x.1 x.2, x.2.rev), fun x => Prod.ext (up_rev_up x.1 x.2) (Fin.rev_rev _),
    fun x => Prod.ext (up_rev_up x.1 x.2) (Fin.rev_rev _)⟩

theorem deal (e : Dev nD × Fin 15 ≃ Dev nD × Fin 15) (Φ : Dev nD × Fin 15 → sProp 𝕄) :
    (bigSep Finset.univ fun c => bigSep Finset.univ fun i => Φ (c, i)) = bigSep Finset.univ fun c => bigSep Finset.univ fun i => Φ (e (c, i)) := by
  rw [← bigSep_univ_prod Φ, ← bigSep_univ_prod fun x => Φ (e x), bigSep_univ_equiv e Φ]

theorem toks_around : (bigSep Finset.univ fun c : Dev nD => (toks c : sProp 𝕄)) ⊢ bigSep Finset.univ fun c : Dev nD => iprop(toksB c ∗ toksR c ∗ toksA c) := by
  have e : ∀ c : Dev nD, (toks c : sProp 𝕄) = iprop((bigSep Finset.univ fun i => dutyTok ER (barCell c) 0 i)
      ∗ (bigSep Finset.univ fun i => dutyTok ER (dCell c 0 i) 0 0) ∗ (bigSep Finset.univ fun i => dutyTok ER (dCell c 1 i) 0 0)
      ∗ (bigSep Finset.univ fun i => dutyTok ER (dCell c 2 i) 0 0) ∗ bigSep Finset.univ fun i => dutyTok ER (dCell c 3 i) 0 0) := fun c => by
    unfold toks; rw [bigSep_kinds]; rfl
  have e' : ∀ c : Dev nD, (iprop(toksB c ∗ toksR c ∗ toksA c) : sProp 𝕄) = iprop((bigSep Finset.univ fun i => dutyTok ER (barCell (up c i)) 0 i)
      ∗ ((bigSep Finset.univ fun i => dutyTok ER (dCell c 0 i) 0 0) ∗ (bigSep Finset.univ fun i => dutyTok ER (dCell (up c i) 1 i.rev) 0 0))
      ∗ (bigSep Finset.univ fun i => dutyTok ER (dCell c 2 i) 0 0) ∗ bigSep Finset.univ fun i => dutyTok ER (dCell (up c i) 3 i) 0 0) := fun c => by
    unfold toksB toksR toksA
    rw [bigSep_sep' Finset.univ (fun i : Fin 15 => (dutyTok ER (dCell c 0 i) 0 0 : sProp 𝕄)) (fun i => dutyTok ER (dCell (up c i) 1 i.rev) 0 0),
      bigSep_sep' Finset.univ (fun i : Fin 15 => (dutyTok ER (dCell c 2 i) 0 0 : sProp 𝕄)) (fun i => dutyTok ER (dCell (up c i) 3 i) 0 0)]
  simp only [e, e', bigSep_sep']
  iintro ⟨HB, H0, H1, H2, H3⟩
  ihave HB := (Entails.of_eq (deal fwd fun x => (dutyTok ER (barCell x.1) 0 x.2 : sProp 𝕄))) $$ HB
  ihave H1 := (Entails.of_eq (deal swap fun x => (dutyTok ER (dCell x.1 1 x.2) 0 0 : sProp 𝕄))) $$ H1
  ihave H3 := (Entails.of_eq (deal fwd fun x => (dutyTok ER (dCell x.1 3 x.2) 0 0 : sProp 𝕄))) $$ H3
  isplitl [HB]; · iexact HB
  isplitl [H0 H1]
  · isplitl [H0]; · iexact H0
    iexact H1
  isplitl [H2]; · iexact H2
  iexact H3

/-! ## The global step -/

/-- A device's share of the ghost state: its positions and the tokens of the duties it pays. -/
def linear (c : Dev nD) : sProp 𝕄 :=
  iprop((bigSep Finset.univ fun k => atPos ER (kcell (c, k)) 0 ∅ 0) ∗ toksB c ∗ toksR c ∗ toksA c)

def G' (c : Dev nD) : sProp 𝕄 := iprop(∃ K, records part fin K ∗ linear c)

theorem ghost_intro (K : Dev nD × Option (Fin 4 × Fin 15) → ℕ) (c : Dev nD) : iprop(records part fin K ∗ linear c) ⊢ G' part fin c := by
  unfold G'
  iintro H
  iexists K
  iexact H

theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched part fin) κ (kcell (c, k))))
          ∗ (bigSep Finset.univ fun k => iprop(atPos ER (kcell (c, k)) 0 ∅ 0 ∗ reached ER (kcell (c, k)) 0)) ∗ toks c) : sProp 𝕄)
      ⊢ bigSep Finset.univ (G' part fin) := by
  rw [bigSep_sep', bigSep_sep', ← bigSep_univ_prod (fun ck : Dev nD × Option (Fin 4 × Fin 15) => iprop(∃ κ : ℕ, cellInv ER (sched part fin) κ (kcell ck))),
    bigSep_congr (s := Finset.univ) (fun (c : Dev nD) _ => bigSep_sep' Finset.univ (fun k : Option (Fin 4 × Fin 15) => (atPos ER (kcell (c, k)) 0 ∅ 0 : sProp 𝕄)) (fun k => reached ER (kcell (c, k)) 0)),
    bigSep_sep', ← bigSep_univ_prod (fun ck : Dev nD × Option (Fin 4 × Fin 15) => (reached ER (kcell ck) 0 : sProp 𝕄))]
  iintro ⟨HI, ⟨Hat, #HR⟩, Htok⟩
  ihave HK := (BI.bigSep_exists_pi Finset.univ (fun (ck : Dev nD × Option (Fin 4 × Fin 15)) (κ : ℕ) => (cellInv ER (sched part fin) κ (kcell ck) : sProp 𝕄))) $$ HI
  icases HK with ⟨%K, #HI⟩
  ihave Htk := (toks_around (F := F)) $$ Htok
  iapply (bigSep_keep (R := records part fin K) fun c _ => ghost_intro part fin K c)
  isplitr
  · unfold records; isplitl; · iexact HI
    iexact HR
  · iapply (Entails.of_eq (bigSep_sep' Finset.univ (fun c : Dev nD => bigSep Finset.univ fun k : Option (Fin 4 × Fin 15) => (atPos ER (kcell (c, k)) 0 ∅ 0 : sProp 𝕄))
      (fun c => iprop(toksB c ∗ toksR c ∗ toksA c))).symm)
    isplitl [Hat]; · iexact Hat
    iexact Htk

/-- Every device's semaphores become its cells, at once. -/
theorem glob : (bigSep Finset.univ fun c => iprop(ownS (F := F) c ∗ unscopedSems0 c ∗ G part fin c) : sProp 𝕄)
    ⊢ |={Set.univ}=> bigSep Finset.univ (G' part fin) :=
  ((bigSep_mono fun c _ => core_alloc part fin c).trans (bigSep_fupd _ _)).trans (BI.fupd_mono (regroup part fin))

end Cert.Mesh

end
-- ==== Proof.Launch.lean ====
/-
# The launch

The credits the launch deals, its side conditions, and the whole run on sixteen devices.
-/
module

public import proofs.«01_k».proof.Proof.Dats
public import proofs.«01_k».proof.Proof.Deal
public import Idealize.ShloMosaic.Lib.Pipeline.CollectiveSegs

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch credit -/

/-- A tally read at a cell, as an additive map. -/
def readAt (g : GSem nD τ sig) : CellTallies nD τ sig Unit →+ ℕ := ⟨⟨fun f => f g (), rfl⟩, fun _ _ => rfl⟩

theorem owe_read (d : Dev nD) (g : GSem nD τ sig) :
    owe d 0 0 0 g () = (∑ i, if g = barCell (up d i) then 1 else 0) + (∑ i : Fin 15, if g = dCell (up d i) 1 i.rev then N else 0)
      + ∑ i, if g = dCell (up d i) 3 i then N else 0 := by
  show readAt g (owe d 0 0 0) = _
  unfold owe oweBar oweRs oweAg
  rw [map_add, map_add, map_sum, map_sum, map_sum, rem_zero]
  have h : ∀ (g' : GSem nD τ sig) (n : ℕ), readAt g (tallyAt g' () n) = if g = g' then n else 0 := fun g' n => by
    show tallyAt g' () n g () = _
    rw [tallyAt_apply]; simp
  simp only [h]

theorem bar_ne_d (c c' : Dev nD) (a : Fin 4) (i : Fin 15) : barCell c ≠ dCell c' a i := fun h => by
  have := congrArg Prod.snd h
  cases this

theorem d_inj {c c' : Dev nD} {a a' : Fin 4} {i i' : Fin 15} (h : dCell c a i = dCell c' a' i') : c = c' ∧ a = a' ∧ i = i' := by
  have h1 : osem (a, i) = osem (a', i') := congrArg Prod.snd h
  have h2 := osem_inj h1
  exact ⟨tc_inj (congrArg Prod.fst h), congrArg Prod.fst h2, congrArg Prod.snd h2⟩

theorem owed_bar (c : Dev nD) : ∑ d : Dev nD, owe d 0 0 0 (barCell c) () = 15 := by
  have h : ∀ d : Dev nD, owe d 0 0 0 (barCell c) () = ∑ i, if d = up c (Fin.rev i) then 1 else 0 := fun d => by
    rw [owe_read, Finset.sum_eq_zero (s := Finset.univ) (f := fun i : Fin 15 => if barCell c = dCell (up d i) 1 i.rev then N else 0)
        (fun i _ => if_neg (bar_ne_d _ _ _ _)),
      Finset.sum_eq_zero (s := Finset.univ) (f := fun i : Fin 15 => if barCell c = dCell (up d i) 3 i then N else 0)
        (fun i _ => if_neg (bar_ne_d _ _ _ _)), Nat.add_zero, Nat.add_zero]
    refine Finset.sum_congr rfl fun i _ => ?_
    by_cases e : d = up c i.rev
    · rw [if_pos e, if_pos (by rw [e, up_up_rev])]
    · rw [if_neg e, if_neg fun h' => e (by rw [tc_inj (congrArg Prod.fst h'), up_rev_up])]
  rw [Finset.sum_congr rfl fun d _ => h d, Finset.sum_comm]
  simp

theorem owed_rs (c : Dev nD) (j : Fin 15) : ∑ d : Dev nD, owe d 0 0 0 (dCell c 1 j) () = N := by
  have h : ∀ d : Dev nD, owe d 0 0 0 (dCell c 1 j) () = if d = up c j then N else 0 := fun d => by
    rw [owe_read, Finset.sum_eq_zero (s := Finset.univ) (f := fun i : Fin 15 => if dCell c 1 j = barCell (up d i) then 1 else 0)
        (fun i _ => if_neg (bar_ne_d _ _ _ _).symm),
      Finset.sum_eq_zero (s := Finset.univ) (f := fun i : Fin 15 => if dCell c 1 j = dCell (up d i) 3 i then N else 0)
        (fun i _ => if_neg fun h' => absurd (d_inj h').2.1 (by decide)), Nat.add_zero, Nat.zero_add]
    rw [Finset.sum_eq_single j.rev (fun i _ hi => if_neg fun h' => hi (by rw [(d_inj h').2.2, Fin.rev_rev])) (fun h' => absurd (Finset.mem_univ _) h'),
      Fin.rev_rev]
    by_cases e : d = up c j
    · rw [if_pos e, if_pos (by rw [e, up_rev_up])]
    · rw [if_neg e, if_neg fun h' => e (by rw [(d_inj h').1]; exact ((up_up_rev d j)).symm)]
  rw [Finset.sum_congr rfl fun d _ => h d, Finset.sum_ite_eq' Finset.univ (up c j) fun _ => N, if_pos (Finset.mem_univ _)]

theorem owed_ag (c : Dev nD) (j : Fin 15) : ∑ d : Dev nD, owe d 0 0 0 (dCell c 3 j) () = N := by
  have h : ∀ d : Dev nD, owe d 0 0 0 (dCell c 3 j) () = if d = up c (Fin.rev j) then N else 0 := fun d => by
    rw [owe_read, Finset.sum_eq_zero (s := Finset.univ) (f := fun i : Fin 15 => if dCell c 3 j = barCell (up d i) then 1 else 0)
        (fun i _ => if_neg (bar_ne_d _ _ _ _).symm),
      Finset.sum_eq_zero (s := Finset.univ) (f := fun i : Fin 15 => if dCell c 3 j = dCell (up d i) 1 i.rev then N else 0)
        (fun i _ => if_neg fun h' => absurd (d_inj h').2.1 (by decide)), Nat.add_zero, Nat.zero_add]
    rw [Finset.sum_eq_single j (fun i _ hi => if_neg fun h' => hi (d_inj h').2.2.symm) (fun h' => absurd (Finset.mem_univ _) h')]
    by_cases e : d = up c j.rev
    · rw [if_pos e, if_pos (by rw [e, up_up_rev])]
    · rw [if_neg e, if_neg fun h' => e (by rw [(d_inj h').1, up_rev_up])]
  rw [Finset.sum_congr rfl fun d _ => h d, Finset.sum_ite_eq' Finset.univ (up c (Fin.rev j)) fun _ => N, if_pos (Finset.mem_univ _)]

/-- What each device owes at the launch. -/
def O₀ (c : Dev nD) : CellTallies nD τ sig Unit := owe c 0 0 0

theorem launch_at (g : GSem nD τ sig) (n : ℕ) (h : ∑ d : Dev nD, owe d 0 0 0 g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]
  exact h

theorem creds (c : Dev nD) : (Pipeline.launchCred O₀ c : sProp 𝕄) ⊢ iprop(cred (tallyAt (barCell c) () 15) ∗ crs 1 c ∗ crs 3 c) := by
  have hs : (Pipeline.launchCred O₀ c : sProp 𝕄) ⊢ bigSep Finset.univ fun k => cred (tallyOn (kcell (c, k)) (launchCredit (Pipeline.owing O₀) 0 (kcell (c, k)))) := by
    unfold Pipeline.launchCred
    refine (BI.bigSep_subset (Finset.subset_univ (Finset.univ.map ⟨csem, csem_inj⟩))).trans ?_
    rw [bigSep_map]
    exact BI.Entails.refl _
  rw [bigSep_opt, bigSep_kinds] at hs
  unfold crs
  iintro H
  ihave H := hs $$ H
  icases H with ⟨HB, -, H1, -, H3⟩
  have e : ∀ g n, ∑ d : Dev nD, owe d 0 0 0 g () = n →
      ((cred (tallyOn g (launchCredit (Pipeline.owing O₀) 0 g)) : sProp 𝕄) ⊢ cred (tallyAt g () n)) := fun g n h => by
    rw [launch_at g n h]
  isplitl [HB]; · iapply (e _ _ (owed_bar c)); iexact HB
  isplitl [H1]
  · iapply (show (bigSep Finset.univ fun i : Fin 15 => (cred (tallyOn (dCell c 1 i) (launchCredit (Pipeline.owing O₀) 0 (dCell c 1 i))) : sProp 𝕄))
      ⊢ bigSep Finset.univ fun i => cred (tallyAt (dCell c 1 i) () N) from bigSep_mono fun i _ => e _ _ (owed_rs c i))
    iexact H1
  · iapply (show (bigSep Finset.univ fun i : Fin 15 => (cred (tallyOn (dCell c 3 i) (launchCredit (Pipeline.owing O₀) 0 (dCell c 3 i))) : sProp 𝕄))
      ⊢ bigSep Finset.univ fun i => cred (tallyAt (dCell c 3 i) () N) from bigSep_mono fun i _ => e _ _ (owed_ag c i))
    iexact H3

/-! ## The launch theorem's side conditions -/

variable (m : (ref : Loc nD τ sig) → Buf (Elt F) ref) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (parts m) (outs m) c)
      ⊢ |={Set.univ}=> iprop(start m c ∗ emp) := by
  iintro ⟨-, #Hlev, Hcr, -, HG⟩
  ihave Hc := (creds (F := F) c) $$ Hcr
  icases Hc with ⟨HB, H1, H3⟩
  unfold start G' linear ctx devStart pos
  rw [bigSep_opt, bigSep_kinds]
  icases HG with ⟨%K, #HR, ⟨Hb, Hp0, Hp1, Hp2, Hp3⟩, HtB, HtR, HtA⟩
  imodintro
  isplitl
  · isplitr
    · iexists K
      isplitl; · iexact HR
      iexact Hlev
    isplitl [Hb]; · iexact Hb
    isplitl [HtB]; · iexact HtB
    isplitl [HtR]; · iexact HtR
    isplitl [HtA]; · iexact HtA
    isplitl [Hp0]; · iexact Hp0
    isplitl [Hp1]; · iexact Hp1
    isplitl [Hp2]; · iexact Hp2
    isplitl [Hp3]; · iexact Hp3
    isplitl [HB]; · iexact HB
    isplitl [H1] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, show Pipeline.ownSems0 osem c = ownS (F := F) c from rfl,
    ownSems0_eq, unscopedSems0_eq, bigSep_kinds]
  unfold Φ₁ devEnd zeros
  iintro ⟨⟨Hb, H0, H1, H2, H3⟩, ⟨%f, Hr⟩⟩
  isplitl [Hb]; · iexact Hb
  isplitl [H0 H1 H2 H3]
  · isplitl [H0]; · iexact H0
    isplitl [H1]; · iexact H1
    isplitl [H2]; · iexact H2
    iexact H3
  iexists f; iexact Hr

theorem mayWait_stage (c : Dev nD) (q : DmaSem sig) (hq : locLv (.dma q) = 0) (O : CellTallies nD τ sig Unit) (hO : O = owe c 0 0 0 ∨ O = 0) :
    (levAts L lv : sProp 𝕄) ⊢ MayWait (c : Thread nD τ) (.dma q) () O := by
  rcases hO with rfl | rfl
  · exact mayWait_owe c _ 0 0 0 (fun _ => by rw [hq]; decide) (fun _ => by rw [hq]; decide) (fun _ => by rw [hq]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def u₀ : UU := (initOf (Pipeline.cells cfgs cellOf_inj) (Pipeline.launchToks cfgs cellOf_inj), initOf allCells allToks)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- On sixteen devices, for any float values, from any memory with zero counters: every weakly fair execution of @main
    terminates, and every final state has each device's arrays at the computed contents and every semaphore counter at zero. -/
theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (parts m) (outs m)) (G' := G' (parts m) (outs m)) (u₀ := u₀)
    (hu₀ := by
      unfold u₀
      iintro Hu
      ihave H := (ownU_pair _ _) $$ Hu
      icases H with ⟨HP, HX⟩
      imod (fund_cells (parts m) (outs m)) $$ HX with HG
      imodintro
      isplitl [HP] <;> iassumption)
    (hglob := glob (parts m) (outs m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mesh

end
-- ==== Proof.Final.lean ====
/-
# The run in closed form

What the run leaves: on every device the same result, the arguments unchanged, every semaphore at zero.
-/
module

public import proofs.«01_k».proof.Proof.Launch

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ref : Loc nD τ sig) → Buf (Elt F) ref) (ρ : Dev nD → PrngReg)

/-! ## Each window's one block is its whole array -/

theorem stX_eq (c : Dev nD) : stX m c = m ((c : Thread nD τ).loc main_arg0) :=
  Memref.read_access_unit_zero (Elt F) main_arg0 (show (fun a => (win0_0.index (0 : Fin 1)) a * main_arg0.ty.shape.size a) = fun _ => 0 from
    funext fun a => by fin_cases a <;> decide) (fun a => by fin_cases a <;> decide) _
theorem stQ_eq (c : Dev nD) : stQ m c = m ((c : Thread nD τ).loc main_arg1) :=
  Memref.read_access_unit_zero (Elt F) main_arg1 (show (fun a => (win0_1.index (0 : Fin 1)) a * main_arg1.ty.shape.size a) = fun _ => 0 from
    funext fun a => by fin_cases a <;> decide) (fun a => by fin_cases a <;> decide) _
theorem stO_eq (c : Dev nD) : stO m c = m ((c : Thread nD τ).loc main_arg4) :=
  Memref.read_access_unit_zero (Elt F) main_arg4 (show (fun a => (win0_2.index (0 : Fin 1)) a * main_arg4.ty.shape.size a) = fun _ => 0 from
    funext fun a => by fin_cases a <;> decide) (fun a => by fin_cases a <;> decide) _
theorem stK_eq (c : Dev nD) : stK m c = m ((c : Thread nD τ).loc main_arg2) :=
  Memref.read_access_unit_zero (Elt F) main_arg2 (show (fun a => (win0_3.index (0 : Fin 1)) a * main_arg2.ty.shape.size a) = fun _ => 0 from
    funext fun a => by fin_cases a <;> decide) (fun a => by fin_cases a <;> decide) _
theorem stV_eq (c : Dev nD) : stV m c = m ((c : Thread nD τ).loc main_arg3) :=
  Memref.read_access_unit_zero (Elt F) main_arg3 (show (fun a => (win0_4.index (0 : Fin 1)) a * main_arg3.ty.shape.size a) = fun _ => 0 from
    funext fun a => by fin_cases a <;> decide) (fun a => by fin_cases a <;> decide) _

theorem finalA_blk (c : Dev nD) : (win0_5.blk (0 : Fin 1)).view.read (Elt F) (finalA m ρ c (5 : Fin 6)) = outs m := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from flush0_5 _, if_pos rfl]
  exact View.read_write_univ _ _

theorem finalA_out (c : Dev nD) : finalA m ρ c (5 : Fin 6) = outs m :=
  (Memref.read_access_unit_zero (Elt F) main_v1 (show (fun a => (win0_5.index (0 : Fin 1)) a * main_v1.ty.shape.size a) = fun _ => 0 from
    funext fun a => by fin_cases a <;> decide) (fun a => by fin_cases a <;> decide) _).symm.trans (finalA_blk m ρ c)

/-- The run of @main: every device's result ends at the same contents `outs m`, its arguments as they were, every counter at
    zero. -/
theorem run_main : θ_run defs (onTc (τ := τ) (main (F := F))) ⟨m, fun _ => 0, ρ⟩ (fun r =>
    (∀ c : Dev nD, r.2.mem ((c.tc : Thread nD τ).loc main_v1) = outs m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c =>
      ⟨(h.1 c (5 : Fin 6)).trans (finalA_out m ρ c),
        (h.1 c (0 : Fin 6)).trans ((dats m ρ 0 c).arrAt_in (0 : Fin 6) rfl _),
        (h.1 c (1 : Fin 6)).trans ((dats m ρ 0 c).arrAt_in (1 : Fin 6) rfl _),
        (h.1 c (3 : Fin 6)).trans ((dats m ρ 0 c).arrAt_in (3 : Fin 6) rfl _),
        (h.1 c (4 : Fin 6)).trans ((dats m ρ 0 c).arrAt_in (4 : Fin 6) rfl _),
        (h.1 c (2 : Fin 6)).trans ((dats m ρ 0 c).arrAt_in (2 : Fin 6) rfl _)⟩, h.2⟩)
    (run_region m ρ)

end Cert.Mesh

end
-- ==== Proof.Same.lean ====
/-
# The printed program and the one read at the ideal instance

No operation was rewritten, so at any float values both are the same text; here it is shown for what a run takes.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Mesh

open Idealize.ShloMosaic Idealize.SL.Sem

variable {F : FTy → Type} [FloatOps F]

local instance : Cert.Kernel.Facts := Cert.Kernel.Gen.facts
local instance : Cert.KernelIdeal.Facts := Cert.KernelIdeal.Gen.facts

theorem same_main : Cert.Kernel.main (F := F) = Cert.KernelIdeal.main (F := F) := rfl

theorem same_defs₀ : Cert.Kernel.defs₀ (F := F) = Cert.KernelIdeal.defs₀ (F := F) := by
  unfold Cert.Kernel.defs₀ Cert.KernelIdeal.defs₀
  refine congrArg Defs.onTc (funext fun l => funext fun a => ?_)
  obtain ⟨_ | n, h⟩ := l
  · rfl
  · exact absurd h (Nat.not_lt.2 (Nat.le_add_left _ _))

theorem same_defs : Cert.Kernel.defs (F := F) = Cert.KernelIdeal.defs (F := F) := by
  unfold Cert.Kernel.defs Cert.KernelIdeal.defs
  rw [same_defs₀]
  rfl

end Cert.Mesh

end
-- ==== Proof.Heads.lean ====
/-
# A device's part of the projection, entry by entry

At the ideal instance a device's part is, at row `i` and column `n`, the sum over its eight heads and the 128 columns of
each of the head's attention times the output weights.
-/
module

public import proofs.«01_k».proof.Proof.Contents
public import Idealize.ShloMosaic.Lib.Pointwise

@[expose] public section

noncomputable section

namespace Cert.Mesh

open Cert.KernelIdeal Cert.KernelIdeal.Gen Idealize.ShloMosaic

/-- The factor on the queries. -/
def scl : EReal := Ideal.ofBits .f32 0x3DB504F3#32

/-- The score of key `j` for query `i` in the head of columns `o` to `o + 127`. -/
def score (q k : FVec Ideal S256x1024 .f32) (o : ℕ) (ho : o + 128 ≤ 1024) (i j : Fin 256) : EReal :=
  ∑ r : Fin 128, q (ix2 i ⟨o + r.val, by omega⟩) * scl * k (ix2 j ⟨o + r.val, by omega⟩)

/-- The attention of query `i` at column `r` of that head, with no maximum subtracted. -/
def att (q k v : FVec Ideal S256x1024 .f32) (o : ℕ) (ho : o + 128 ≤ 1024) (i : Fin 256) (r : Fin 128) : EReal :=
  Ideal.div (∑ j : Fin 256, Ideal.exp (score q k o ho i j) * v (ix2 j ⟨o + r.val, by omega⟩))
    (∑ j : Fin 256, Ideal.exp (score q k o ho i j))

/-- What that head adds to the projection, `w` its 128 rows of the output weights. -/
def headAdd (q k v : FVec Ideal S256x1024 .f32) (o : ℕ) (ho : o + 128 ≤ 1024) (w : Vec Ideal S128x1024 .bf16)
    (i : Fin 256) (n : Fin 1024) : EReal :=
  ∑ r : Fin 128, att q k v o ho i r * w (ix2 r n)

set_option maxRecDepth 16384

variable (v65 : FVec Ideal S256x1024 .bf16) (q k v acc acc' : FVec Ideal S256x1024 .f32) (wv : Vec Ideal S1024x1024 .bf16)
  (w w' : Vec Ideal S128x1024 .bf16) (i : Fin 256) (n : Fin 1024)

theorem pay5_eq : k0_pay5 v65 q k wv w (ix2 i n) = headAdd q k (k0_pay4 v65 wv) 0 (by decide) w i n := by
  pointwise [k0_pay5]
  simp only [headAdd, att, score, scl, Nat.zero_add]

theorem pay6_eq : k0_pay6 v65 q k wv w (ix2 i n) = headAdd q k (k0_pay4 v65 wv) 128 (by decide) w i n := by
  pointwise [k0_pay6]
  rfl

theorem pay7_eq : k0_pay7 q k v acc acc' w w' (ix2 i n) = acc (ix2 i n) + acc' (ix2 i n)
    + headAdd q k v 256 (by decide) w i n + headAdd q k v 384 (by decide) w' i n := by
  pointwise [k0_pay7]
  rfl

theorem pay10_eq : k0_pay10 q k v acc (k0_pay8 q) (k0_pay9 (F := Ideal)) w w' (ix2 i n) = acc (ix2 i n)
    + headAdd q k v 512 (by decide) w i n + headAdd q k v 640 (by decide) w' i n := by
  pointwise [k0_pay10, k0_pay8, k0_pay9]
  rfl

theorem pay13_eq : k0_pay13 q k v acc (k0_pay11 q) (k0_pay12 k) w w' (ix3 0 i n) = acc (ix2 i n)
    + headAdd q k v 768 (by decide) w i n + headAdd q k v 896 (by decide) w' i n := by
  pointwise [k0_pay13, k0_pay11, k0_pay12]
  rfl

/-! ## The queries, keys and values -/

/-- Row `i` of `x` times column `c` of `w`. -/
def proj (x : Vec Ideal S1x256x1024 .bf16) (w : Vec Ideal S1024x1024 .bf16) (i : Fin 256) (c : Fin 1024) : EReal :=
  ∑ t : Fin 1024, x (ix3 0 i t) * w (ix2 t c)

variable (x : Vec Ideal S1x256x1024 .bf16) (wq wk wo : Vec Ideal S1024x1024 .bf16)

theorem pay2_eq : k0_pay2 x wq (ix2 i n) = proj x wq i n := by
  pointwise [k0_pay2, k0_pay1]
  rfl

theorem pay3_eq : k0_pay3 x wk (ix2 i n) = proj x wk i n := by
  pointwise [k0_pay3, k0_pay1]
  rfl

theorem pay4_eq : k0_pay4 (k0_pay1 x) wv (ix2 i n) = proj x wv i n := by
  pointwise [k0_pay4, k0_pay1]
  rfl

theorem woSl_at (h : Fin 8) (r : Fin 128) : woSl h wo (ix2 r n) = wo (ix2 ⟨128 * h.val + r.val, by omega⟩ n) := by
  show wo _ = wo _
  congr 1
  funext a
  match a with
  | ⟨0, _⟩ => exact Fin.ext (by show 128 * h.val + 1 * r.val = 128 * h.val + r.val; omega)
  | ⟨1, _⟩ => exact Fin.ext (by show 0 + 1 * n.val = n.val; omega)

/-- A device's part at row `i`, column `n`. -/
theorem partOf_at : (show EReal from partOf x wq wo wk wv (ix3 0 i n)) = ∑ h : Fin 8, ∑ r : Fin 128,
    att (k0_pay2 x wq) (k0_pay3 x wk) (k0_pay4 (k0_pay1 x) wv) (128 * h.val) (by omega) i r
      * wo (ix2 ⟨128 * h.val + r.val, by omega⟩ n) := by
  simp only [partOf]
  rw [pay13_eq, pay10_eq, pay7_eq, pay5_eq, pay6_eq, Fin.sum_univ_eight]
  simp only [headAdd, woSl_at]
  rfl

end Cert.Mesh

end
-- ==== Proof.Total.lean ====
/-
# The sum over the devices

The final rows are, entry by entry, the sum of the parts of all sixteen devices: a device's own part first, then those of
the others in the order of the slots.
-/
module

public import proofs.«01_k».proof.Proof.Contents
public import Idealize.ShloMosaic.Lib.Pointwise

@[expose] public section

noncomputable section

namespace Cert.Mesh

open Cert.KernelIdeal Cert.KernelIdeal.Gen Idealize.ShloMosaic

/-- An output buffer's entry at row `i` and column `k`. -/
def entry (f : OutBuf Ideal) (i : Fin 256) (k : Fin 1024) : EReal := f (ix3 0 i k)

theorem sum_slots (f : Fin 15 → EReal) : ∑ i, f i
    = f 0 + f 1 + f 2 + f 3 + f 4 + f 5 + f 6 + f 7 + f 8 + f 9 + f 10 + f 11 + f 12 + f 13 + f 14 := by
  simp only [Fin.sum_univ_castSucc, Fin.sum_univ_zero, zero_add]
  rfl

set_option maxRecDepth 16384 in
theorem sumOf_at (own : Vec Ideal S1x16x1024 .bf16) (s : Fin 15 → Vec Ideal S1x16x1024 .bf16) (r : Fin 16) (k : Fin 1024) :
    sumOf own s (ix3 0 r k) = own (ix3 0 r k) + ∑ i, (s i (ix3 0 r k) : EReal) := by
  rw [sum_slots]
  pointwise [sumOf, k0_pay14, k0_pay15, k0_pay16]
  ac_rfl

theorem rowRd_at (a : Dev nD) (f : OutBuf Ideal) (r : Fin 16) (k : Fin 1024) : rowRd a f (ix3 0 r k) = f (oIx a r k) := by
  show f _ = f _
  congr 1
  exact ix3_ext (by show 0 + 1 * 0 = 0; rfl) (by show 16 * a.val + 1 * r.val = 16 * a.val + r.val; omega)
    (by show 0 + 1 * k.val = k.val; omega)

theorem slotRd_at (i : Fin 15) (f : SBuf Ideal) (r : Fin 16) (k : Fin 1024) : slotRd i f (ix3 0 r k) = f (sIx i r k) := by
  show f _ = f _
  congr 1
  exact ix3_ext (by show i.val + 1 * 0 = i.val; omega) (by show 0 + 1 * r.val = r.val; omega)
    (by show 0 + 1 * k.val = k.val; omega)

theorem blkOf_at (part : Dev nD → OutBuf Ideal) (a : Dev nD) (r : Fin 16) (k : Fin 1024) :
    blkOf part a (ix3 0 r k) = ∑ d : Dev nD, entry (part d) ⟨16 * a.val + r.val, by have := a.isLt; have : a.val < 16 := a.isLt; omega⟩ k := by
  rw [blkOf, sumOf_at, rowRd_at, ← (around a).sum_comp, Fintype.sum_option]
  simp only [slotRd_at]
  rfl

theorem finOf_at (part : Dev nD → OutBuf Ideal) (i : Fin 256) (k : Fin 1024) :
    entry (finOf part) i k = ∑ d : Dev nD, entry (part d) i k := by
  have hi := i.isLt
  have h : (⟨16 * (i.val / 16) + i.val % 16, by omega⟩ : Fin 256) = i := Fin.ext (by show 16 * (i.val / 16) + i.val % 16 = i.val; omega)
  have e : (ix3 0 i k : S1x256x1024.Idx) = oIx ⟨i.val / 16, by show _ < 16; omega⟩ ⟨i.val % 16, by omega⟩ k :=
    ix3_ext rfl (by show i.val = 16 * (i.val / 16) + i.val % 16; omega) rfl
  rw [entry, e, finOf_row]
  refine (blkOf_at part _ _ k).trans ?_
  show ∑ d : Dev nD, entry (part d) ⟨16 * (i.val / 16) + i.val % 16, _⟩ k = _
  rw [h]

end Cert.Mesh

end
-- ==== Proof.Whole.lean ====
/-
# The reference, entry by entry

At the ideal instance the reference's result is, at row `i` and column `n`, the sum over the 16384 columns of the heads of
the attention, with the row's greatest score subtracted from its scores, times the output weights.
-/
module

public import proofs.«01_k».proof.Proof.Gen.ReferenceIdeal.Run
public import Idealize.ShloMosaic.Lib.Pointwise
public import Idealize.ShloMosaic.Lib.Tactic.CleanTypes

@[expose] public section

noncomputable section

namespace Cert.Mesh.Whole

open Cert.ReferenceIdeal Cert.ReferenceIdeal.Gen Idealize.ShloMosaic Idealize.ShloMosaic.TcCoe

variable (x : Vec Ideal S1x256x1024 .bf16) (wq wk wv : Vec Ideal S1024x16384 .bf16) (wo : Vec Ideal S16384x1024 .bf16)

/-- Row `i` of `x` times column `c` of `w`. -/
def proj (w : Vec Ideal S1024x16384 .bf16) (i : Fin 256) (c : Fin 16384) : EReal := ∑ t : Fin 1024, x (ix3 0 i t) * w (ix2 t c)

/-- The score of key `j` for query `i` in the head that column `c` is of. -/
def score (c : Fin 16384) (i j : Fin 256) : EReal :=
  (∑ r : Fin 128, proj x wq i ⟨c.val / 128 * 128 + r.val, by omega⟩ * proj x wk j ⟨c.val / 128 * 128 + r.val, by omega⟩)
    * Ideal.ofBits .f32 0x3DB504F3#32

/-- The greatest score of query `i` in that head. -/
def top (c : Fin 16384) (i : Fin 256) : EReal :=
  Finset.univ.fold max (Ideal.ofBits .f32 0xFF800000#32) fun j => score x wq wk c i j

/-- The attention of query `i` at column `c`. -/
def att (i : Fin 256) (c : Fin 16384) : EReal :=
  Ideal.div (∑ j : Fin 256, proj x wv j c * Ideal.exp (score x wq wk c i j - top x wq wk c i))
    (∑ j : Fin 256, Ideal.exp (score x wq wk c i j - top x wq wk c i))

set_option maxRecDepth 16384 in
/-- The reference's result at row `i`, column `n`. -/
theorem out_at (m : (ℓ : Loc nD τ sig) → Buf (Elt Ideal) ℓ) (i : Fin 256) (n : Fin 1024)
    (hx : m (((0 : Dev nD).tc : Thread nD τ).loc main_arg0) = x) (hq : m (((0 : Dev nD).tc : Thread nD τ).loc main_arg1) = wq)
    (hk : m (((0 : Dev nD).tc : Thread nD τ).loc main_arg2) = wk) (hv : m (((0 : Dev nD).tc : Thread nD τ).loc main_arg3) = wv)
    (ho : m (((0 : Dev nD).tc : Thread nD τ).loc main_arg4) = wo) :
    Value.res_out0 m 0 (ix3 (n0 := 1) (n1 := 256) (n2 := 1024) 0 i n) = ∑ c : Fin 16384, att x wq wk wv i c * wo (ix2 c n) := by
  simp only [Value.res_main_v28, hx, hq, hk, hv, ho]
  clean_types
  pointwise
  rfl

end Cert.Mesh.Whole

end
-- ==== Proof.Softmax.lean ====
/-
# The greatest score cancels

Where a row's scores are real numbers, dividing the weighted sum of their exponentials by the sum of the exponentials gives
the same whether or not the row's greatest score is subtracted first: the factor is a positive real number on both sides of
the quotient. The values summed may be infinite.
-/
module

public import Idealize.ShloMosaic.PureOps.Ideal
public import Idealize.ShloMosaic.PureOps.Ideal.Laws

@[expose] public section

noncomputable section

namespace Cert.Mesh

open Idealize.ShloMosaic

/-- The extended real is a real number. -/
def IsReal (e : EReal) : Prop := ∃ r : ℝ, e = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s hn ih =>
    obtain ⟨r, hr⟩ := h a (Finset.mem_insert_self a s)
    obtain ⟨t, ht⟩ := ih fun i hi => h i (Finset.mem_insert_of_mem hi)
    exact ⟨r + t, by rw [Finset.sum_insert hn, hr, ht, EReal.coe_add]⟩

/-- A positive real factor comes out of a sum of extended reals. -/
theorem sum_mul_real {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s h ih =>
    rw [Finset.sum_insert h, Finset.sum_insert h, ih,
      EReal.right_distrib_of_nonneg_of_ne_top (by exact_mod_cast hc) (EReal.coe_ne_top c)]

/-- A factor on the left operands of a sum of products of real numbers comes out of it. -/
theorem scale_out {n : ℕ} (a b : Fin n → EReal) (s : EReal) (ha : ∀ r, IsReal (a r)) (hb : ∀ r, IsReal (b r)) (hs : IsReal s) :
    ∑ r, a r * s * b r = (∑ r, a r * b r) * s := by
  choose a' ha' using ha
  choose b' hb' using hb
  obtain ⟨σ, rfl⟩ := hs
  simp only [ha', hb', ← EReal.coe_mul, ← coe_sum]
  congr 1
  rw [Finset.sum_mul]
  exact Finset.sum_congr rfl fun r _ => by ring

/-- The greatest of finitely many real numbers is one. -/
theorem isReal_top {n : ℕ} (f : Fin (n + 1) → EReal) (h : ∀ j, IsReal (f j)) : IsReal (Finset.univ.fold max (⊥ : EReal) f) := by
  have key : ∀ s : Finset (Fin (n + 1)), s.Nonempty → IsReal (s.fold max (⊥ : EReal) f) := fun s hs => by
    classical
    induction hs using Finset.Nonempty.cons_induction with
    | singleton a => rw [Finset.fold_singleton, max_eq_left bot_le]; exact h a
    | cons a s hn hs ih =>
      rw [Finset.fold_cons]
      rcases le_total (f a) (s.fold max (⊥ : EReal) f) with hle | hle
      · rw [max_eq_right hle]; exact ih
      · rw [max_eq_left hle]; exact h a
  exact key _ Finset.univ_nonempty

/-- The quotient with a real number subtracted from the scores is the quotient without. -/
theorem softmax_shift {n : ℕ} (s v : Fin (n + 1) → EReal) (t : EReal) (hs : ∀ j, IsReal (s j)) (ht : IsReal t) :
    Ideal.div (∑ j, v j * Ideal.exp (s j - t)) (∑ j, Ideal.exp (s j - t))
      = Ideal.div (∑ j, Ideal.exp (s j) * v j) (∑ j, Ideal.exp (s j)) := by
  choose s' hs' using hs
  obtain ⟨t', rfl⟩ := ht
  have he : ∀ j, Ideal.exp (s j - (t' : EReal)) = Ideal.exp (s j) * ((Real.exp (-t') : ℝ) : EReal) := fun j => by
    rw [hs' j, ← EReal.coe_sub, Ideal.exp_coe, Ideal.exp_coe, ← EReal.coe_mul, ← Real.exp_add, sub_eq_add_neg]
  have hd : ∑ j, Ideal.exp (s j) = ((∑ j, Real.exp (s' j) : ℝ) : EReal) := by
    rw [coe_sum]; exact Finset.sum_congr rfl fun j _ => by rw [hs' j, Ideal.exp_coe]
  have hpos : 0 < ∑ j, Real.exp (s' j) := Finset.sum_pos (fun j _ => Real.exp_pos _) Finset.univ_nonempty
  have hc : 0 < Real.exp (-t') := Real.exp_pos _
  simp only [he, ← mul_assoc]
  rw [sum_mul_real _ _ hc.le, sum_mul_real _ _ hc.le, hd, ← EReal.coe_mul, Ideal.div_coe (mul_pos hpos hc).ne',
    Ideal.div_coe hpos.ne', mul_assoc, ← EReal.coe_mul]
  have e : Real.exp (-t') * (1 / ((∑ j, Real.exp (s' j)) * Real.exp (-t'))) = 1 / ∑ j, Real.exp (s' j) := by
    field_simp
  rw [e]
  congr 1
  exact Finset.sum_congr rfl fun j _ => mul_comm _ _

/-- The factor on the scores is a real number. -/
theorem isReal_scl : IsReal (Ideal.ofBits .f32 0x3DB504F3#32) := by
  unfold Ideal.ofBits Ideal.ieee
  simp only
  rw [if_neg (by decide), if_neg (by decide)]
  exact ⟨_, rfl⟩

theorem ofBits_bot : Ideal.ofBits .f32 0xFF800000#32 = (⊥ : EReal) := by
  simp [Ideal.ofBits, Ideal.ieee]

end Cert.Mesh

end
-- ==== Proof.Agree.lean ====
/-
# The kernel's values are the reference's

Device `d` holds columns `1024 d` to `1024 d + 1023` of the query, key and value weights and the same rows of the output
weights: heads `8 d` to `8 d + 7`. Its attention is the reference's at those columns, so the sum over the devices, their
heads and the heads' columns is the reference's sum over all columns.
-/
module

public import proofs.«01_k».proof.Proof.Heads
public import proofs.«01_k».proof.Proof.Total
public import proofs.«01_k».proof.Proof.Whole
public import proofs.«01_k».proof.Proof.Softmax
public import Idealize.ShloMosaic.Lib.Layout
public import Idealize.ShloMosaic.Lib.Pipeline.ValueKit.Acc

@[expose] public section

noncomputable section

namespace Cert.Mesh

open Cert.KernelIdeal Cert.KernelIdeal.Gen Idealize.ShloMosaic

abbrev Cols : Shape := ⟨2, ![1024, 16384]⟩
abbrev Rows : Shape := ⟨2, ![16384, 1024]⟩

/-- Device `d`'s block of columns of a weight matrix, and its block of rows of the output weights. -/
def colsOf (d : Fin 16) (w : Vec Ideal Cols .bf16) : Vec Ideal S1024x1024 .bf16 :=
  Layout.block ⟨2, ![1024, 1024]⟩ ⟨2, ![1024, 16384]⟩ 1 16 d w
def rowsOf (d : Fin 16) (w : Vec Ideal Rows .bf16) : Vec Ideal S1024x1024 .bf16 :=
  Layout.block ⟨2, ![1024, 1024]⟩ ⟨2, ![16384, 1024]⟩ 0 16 d w

theorem colsOf_at (d : Fin 16) (w : Vec Ideal Cols .bf16) (t c : Fin 1024) :
    colsOf d w (ix2 t c) = w (ix2 t ⟨d.val * 1024 + c.val, by omega⟩) := by
  show w _ = w _
  congr 1
  funext a
  match a with
  | ⟨0, _⟩ => rfl
  | ⟨1, _⟩ => rfl

theorem rowsOf_at (d : Fin 16) (w : Vec Ideal Rows .bf16) (c n : Fin 1024) :
    rowsOf d w (ix2 c n) = w (ix2 ⟨d.val * 1024 + c.val, by omega⟩ n) := by
  show w _ = w _
  congr 1
  funext a
  match a with
  | ⟨0, _⟩ => rfl
  | ⟨1, _⟩ => rfl

variable (x : Vec Ideal S1x256x1024 .bf16) (wq wk wv : Vec Ideal Cols .bf16) (wo : Vec Ideal Rows .bf16)

theorem proj_eq (d : Fin 16) (w : Vec Ideal Cols .bf16) (i : Fin 256) (c : Fin 1024) :
    proj x (colsOf d w) i c = Whole.proj x w i ⟨d.val * 1024 + c.val, by omega⟩ := by
  unfold proj Whole.proj
  exact Finset.sum_congr rfl fun t _ => by rw [colsOf_at]

/-- What the scores are made of is real. -/
structure Reals : Prop where
  x : ∀ i t, IsReal (x (ix3 0 i t))
  wq : ∀ t c, IsReal (wq (ix2 t c))
  wk : ∀ t c, IsReal (wk (ix2 t c))

variable {x wq wk}

theorem Reals.projQ (h : Reals x wq wk) (i : Fin 256) (c : Fin 16384) : IsReal (Whole.proj x wq i c) :=
  .sum _ _ fun t _ => (h.x i t).mul (h.wq t c)

theorem Reals.projK (h : Reals x wq wk) (i : Fin 256) (c : Fin 16384) : IsReal (Whole.proj x wk i c) :=
  .sum _ _ fun t _ => (h.x i t).mul (h.wk t c)

theorem Reals.score (h : Reals x wq wk) (c : Fin 16384) (i j : Fin 256) : IsReal (Whole.score x wq wk c i j) :=
  (IsReal.sum _ _ fun r _ => (h.projQ i _).mul (h.projK j _)).mul isReal_scl

theorem Reals.top (h : Reals x wq wk) (c : Fin 16384) (i : Fin 256) : IsReal (Whole.top x wq wk c i) := by
  rw [Whole.top, ofBits_bot]
  exact isReal_top _ fun j => h.score c i j

/-- The column of the whole weights that column `r` of head `h` of device `d` is. -/
def colAt (d : Fin 16) (h : Fin 8) (r : Fin 128) : Fin 16384 := ⟨d.val * 1024 + (128 * h.val + r.val), by omega⟩

theorem score_eq (hr : Reals x wq wk) (d : Fin 16) (h : Fin 8) (r : Fin 128) (i j : Fin 256) :
    score (k0_pay2 x (colsOf d wq)) (k0_pay3 x (colsOf d wk)) (128 * h.val) (by omega) i j
      = Whole.score x wq wk (colAt d h r) i j := by
  unfold score
  simp only [pay2_eq, pay3_eq, proj_eq]
  rw [scale_out _ _ scl (fun _ => hr.projQ _ _) (fun _ => hr.projK _ _) isReal_scl]
  unfold Whole.score scl
  have e : ∀ t : Fin 128, (⟨d.val * 1024 + (128 * h.val + t.val), by omega⟩ : Fin 16384)
      = ⟨(colAt d h r).val / 128 * 128 + t.val, by have := (colAt d h r).isLt; omega⟩ := fun t => Fin.ext (by
    show d.val * 1024 + (128 * h.val + t.val) = (d.val * 1024 + (128 * h.val + r.val)) / 128 * 128 + t.val
    omega)
  simp only [e]

theorem att_eq (hr : Reals x wq wk) (d : Fin 16) (h : Fin 8) (r : Fin 128) (i : Fin 256) :
    att (k0_pay2 x (colsOf d wq)) (k0_pay3 x (colsOf d wk)) (k0_pay4 (k0_pay1 x) (colsOf d wv)) (128 * h.val) (by omega) i r
      = Whole.att x wq wk wv i (colAt d h r) := by
  unfold att Whole.att
  rw [softmax_shift (n := 255) _ _ _ (fun j => hr.score (colAt d h r) i j) (hr.top (colAt d h r) i)]
  simp only [score_eq hr d h r, pay4_eq, proj_eq]
  rfl

/-- The sum over the devices, their heads and the heads' columns is the sum over all columns. -/
theorem sum_cols (f : Fin 16384 → EReal) : ∑ d : Fin 16, ∑ h : Fin 8, ∑ r : Fin 128, f (colAt d h r) = ∑ c, f c := by
  rw [← Fin.sum_mul_add_fin 16 1024 f]
  refine Finset.sum_congr rfl fun d _ => ?_
  rw [← Fin.sum_mul_add_fin 8 128 fun l : Fin 1024 => f ⟨d.val * 1024 + l.val, by omega⟩]
  refine Finset.sum_congr rfl fun h _ => Finset.sum_congr rfl fun r _ => congrArg f (Fin.ext ?_)
  show d.val * 1024 + (128 * h.val + r.val) = d.val * 1024 + (h.val * 128 + r.val)
  omega

/-- The kernel's final rows are the reference's. -/
theorem finOf_eq (hr : Reals x wq wk) (part : Dev nD → OutBuf Ideal)
    (hp : ∀ d, part d = partOf x (colsOf d wq) (rowsOf d wo) (colsOf d wk) (colsOf d wv)) (i : Fin 256) (n : Fin 1024) :
    entry (finOf part) i n = ∑ c : Fin 16384, Whole.att x wq wk wv i c * wo (ix2 c n) := by
  rw [finOf_at, ← sum_cols]
  refine Finset.sum_congr rfl fun d _ => ?_
  rw [hp d, entry]
  refine (partOf_at ..).trans ?_
  refine Finset.sum_congr rfl fun h _ => Finset.sum_congr rfl fun r _ => ?_
  rw [att_eq wv hr, rowsOf_at]
  rfl

end Cert.Mesh

end
-- ==== Proof.Finite.lean ====
/-
# The precondition

Of each device's blocks it says that no entry of the input, of the query weights and of the key weights is infinite. The
input and the whole weights are then real entry by entry.
-/
module

public import proofs.«01_k».proof.Defs
public import proofs.«01_k».proof.Proof.Softmax
public import Idealize.ShloMosaic.Lib.Pointwise

@[expose] public section

noncomputable section

namespace Cert.Mesh

open Idealize.ShloMosaic

theorem facts_pre : Cert.Pre_scores_finite_KernelIdeal.Facts where
  bcast_S_S1x256x1024 := by decide
  reducesTo_S1x256x1024_S_d0_1_2 := by decide
  h_S_ := by decide
  bcast_S_S1024x1024 := by decide
  reducesTo_S1024x1024_S_d0_1 := by decide

theorem facts_preWhole : Cert.Pre_scores_finite_ReferenceIdeal.Facts where
  bcast_S_S1x256x1024 := by decide
  reducesTo_S1x256x1024_S_d0_1_2 := by decide
  h_S_ := by decide
  bcast_S_S1024x16384 := by decide
  reducesTo_S1024x16384_S_d0_1 := by decide

/-! ## Reading the conjunctions -/

theorem andi_one {a b : BitVec 1} (h : IntOp.andi a b = 1#1) : a = 1#1 ∧ b = 1#1 := by
  revert a b; decide

theorem fold_andi_one {ι : Type*} (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert a s hn ih =>
    rw [Finset.fold_insert hn] at h
    obtain ⟨h1, h2⟩ := andi_one h
    intro i hi
    rcases Finset.mem_insert.1 hi with rfl | hi
    · exact h1
    · exact ih h2 i hi

/-- An extended real whose absolute value is below the infinity is real. -/
theorem isReal_of_abs {e : EReal} (h : BitVec.ofBool (decide ((FloatOps.absf (F := Ideal) (φ := .bf16) e : EReal) < Ideal.ofBits .bf16 0x7F80#16)) = 1#1) :
    IsReal e := by
  have ht : Ideal.ofBits .bf16 0x7F80#16 = (⊤ : EReal) := by simp [Ideal.ofBits, Ideal.ieee]
  rw [ht] at h
  have hlt : max e (-e) < (⊤ : EReal) := by
    by_contra hn
    have : decide ((FloatOps.absf (F := Ideal) (φ := .bf16) e : EReal) < ⊤) = false := decide_eq_false hn
    rw [this] at h
    exact absurd h (by decide)
  induction e using EReal.rec with
  | bot => exact absurd hlt (by simp)
  | top => exact absurd hlt (by simp)
  | coe r => exact ⟨r, rfl⟩

set_option maxRecDepth 16384 in
open Cert.Pre_scores_finite_KernelIdeal in
/-- What the precondition says of one device's blocks. -/
theorem finite_blocks [Facts] (x : FVec Ideal S1x256x1024 .bf16) (wq wk wv wo : FVec Ideal S1024x1024 .bf16)
    (h : fn (F := Ideal) x wq wk wv wo = fun _ => 1#1) :
    (∀ i t, IsReal (x (ix3 0 i t))) ∧ (∀ t c, IsReal (wq (ix2 t c))) ∧ ∀ t c, IsReal (wk (ix2 t c)) := by
  have h := congrFun h ix0
  pointwise [fn] at h
  obtain ⟨h, h3⟩ := andi_one h
  obtain ⟨h1, h2⟩ := andi_one h
  exact ⟨fun i t => isReal_of_abs (fold_andi_one _ _ h1 (0, i, t) (Finset.mem_univ _)),
    fun t c => isReal_of_abs (fold_andi_one _ _ h2 (t, c) (Finset.mem_univ _)),
    fun t c => isReal_of_abs (fold_andi_one _ _ h3 (t, c) (Finset.mem_univ _))⟩

end Cert.Mesh

end
-- ==== Proof.Equal.lean ====
/-
# The two results are equal

From memories of which the sixteen devices' blocks are the parts of the reference's arrays, and no infinity among what the
scores are made of, every device's output ends as the reference's result.
-/
module

public import proofs.«01_k».proof.Proof.Agree
public import proofs.«01_k».proof.Proof.Finite
public import proofs.«01_k».proof.Proof.Final

@[expose] public section

noncomputable section

namespace Cert.Mesh

open Cert.KernelIdeal Cert.KernelIdeal.Gen Idealize.ShloMosaic Idealize.ShloMosaic.TcCoe

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's arrays. -/
def wX : Vec Ideal S1x256x1024 .bf16 := m' (((0 : Dev Cert.ReferenceIdeal.nD).tc : Thread Cert.ReferenceIdeal.nD Cert.ReferenceIdeal.τ).loc Cert.ReferenceIdeal.main_arg0)
def wQ : Vec Ideal Cols .bf16 := m' (((0 : Dev Cert.ReferenceIdeal.nD).tc : Thread Cert.ReferenceIdeal.nD Cert.ReferenceIdeal.τ).loc Cert.ReferenceIdeal.main_arg1)
def wK : Vec Ideal Cols .bf16 := m' (((0 : Dev Cert.ReferenceIdeal.nD).tc : Thread Cert.ReferenceIdeal.nD Cert.ReferenceIdeal.τ).loc Cert.ReferenceIdeal.main_arg2)
def wV : Vec Ideal Cols .bf16 := m' (((0 : Dev Cert.ReferenceIdeal.nD).tc : Thread Cert.ReferenceIdeal.nD Cert.ReferenceIdeal.τ).loc Cert.ReferenceIdeal.main_arg3)
def wO : Vec Ideal Rows .bf16 := m' (((0 : Dev Cert.ReferenceIdeal.nD).tc : Thread Cert.ReferenceIdeal.nD Cert.ReferenceIdeal.τ).loc Cert.ReferenceIdeal.main_arg4)

/-- Each device's argument buffers hold their parts of the reference's arrays. -/
structure Parts : Prop where
  x : ∀ c : Dev nD, m ((c : Thread nD τ).loc main_arg0) = wX m'
  q : ∀ c : Dev nD, m ((c : Thread nD τ).loc main_arg1) = colsOf c (wQ m')
  k : ∀ c : Dev nD, m ((c : Thread nD τ).loc main_arg2) = colsOf c (wK m')
  v : ∀ c : Dev nD, m ((c : Thread nD τ).loc main_arg3) = colsOf c (wV m')
  o : ∀ c : Dev nD, m ((c : Thread nD τ).loc main_arg4) = rowsOf c (wO m')

variable {m m'}

/-- A whole weight matrix is real if each device's block of it is. -/
theorem real_of_blocks (w : Vec Ideal Cols .bf16) (h : ∀ d : Fin 16, ∀ t c, IsReal (colsOf d w (ix2 t c))) (t : Fin 1024)
    (c : Fin 16384) : IsReal (w (ix2 t c)) := by
  have h1 := h ⟨c.val / 1024, by omega⟩ t ⟨c.val % 1024, by omega⟩
  rw [colsOf_at] at h1
  have e : (⟨c.val / 1024 * 1024 + c.val % 1024, by omega⟩ : Fin 16384) = c := Fin.ext (by
    show c.val / 1024 * 1024 + c.val % 1024 = c.val
    omega)
  rwa [e] at h1

theorem reals_of_pre (hp : Parts m m')
    (h : Cert.Pre_KernelIdeal_scores_finite_KernelIdeal (hPre_scores_finite_KernelIdeal := facts_pre) m) :
    Reals (wX m') (wQ m') (wK m') := by
  have hb := fun c : Dev nD => @finite_blocks facts_pre (wX m') (colsOf c (wQ m')) (colsOf c (wK m')) (colsOf c (wV m'))
    (rowsOf c (wO m')) (by rw [← hp.x c, ← hp.q c, ← hp.k c, ← hp.v c, ← hp.o c]; exact h c)
  exact ⟨(hb 0).1, real_of_blocks _ fun d => (hb d).2.1, real_of_blocks _ fun d => (hb d).2.2⟩

theorem outs_eq (hp : Parts m m') (hr : Reals (wX m') (wQ m') (wK m')) : outs m = Cert.ReferenceIdeal.Value.res_out0 m' 0 := by
  have key : ∀ (i : Fin 256) (n : Fin 1024), entry (outs m) i n = entry (Cert.ReferenceIdeal.Value.res_out0 m' 0) i n := fun i n =>
    (finOf_eq (wV m') (wO m') hr (parts m)
      (fun d => by rw [parts, stX_eq, stQ_eq, stO_eq, stK_eq, stV_eq, hp.x d, hp.q d, hp.k d, hp.v d, hp.o d]) i n).trans
      (Whole.out_at (wX m') (wQ m') (wK m') (wV m') (wO m') m' i n rfl rfl rfl rfl rfl).symm
  funext j
  have hj : (j : S1x256x1024.Idx) = ix3 0 (j 1) (j 2) := ix3_ext (by have := (j 0).isLt; show (j 0).val = 0; exact Nat.lt_one_iff.1 this) rfl rfl
  rw [hj]
  exact key _ _

end Cert.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The printed program's frame: the run at any float values, read at bit patterns. -/
theorem frame_kernel : Cert.quiescent_Kernel (hKernel := Cert.Kernel.Gen.facts) := fun m ρ _ => by
  rw [Cert.Mesh.same_defs]
  exact (θ_run Cert.KernelIdeal.defs _ _).mono (fun _ h => ⟨fun c => (h.1 c).2, h.2⟩) (Cert.Mesh.run_main (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.Mesh.run_main (F := Ideal) m ρ)

/-- The reference declares no semaphore, and its operations write no argument. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frames hold under the precondition too. -/
theorem frame_kernelIdeal_finite : Cert.quiescent_KernelIdeal_pre_scores_finite_KernelIdeal (hKernelIdeal := Cert.KernelIdeal.Gen.facts)
    (hPre_scores_finite_KernelIdeal := Cert.Mesh.facts_pre) := fun m ρ _ => frame_kernelIdeal m ρ trivial

theorem frame_reference_finite : Cert.quiescent_ReferenceIdeal_pre_scores_finite_ReferenceIdeal
    (hReferenceIdeal := Cert.ReferenceIdeal.Gen.facts) (hPre_scores_finite_ReferenceIdeal := Cert.Mesh.facts_preWhole) :=
  fun m ρ _ => frame_reference m ρ trivial

/-- Every device's result is the whole of the reference's. -/
theorem algebraic : Cert.algebraic_KernelIdeal_ReferenceIdeal_pre_scores_finite_KernelIdeal
    (hKernelIdeal := Cert.KernelIdeal.Gen.facts) (hReferenceIdeal := Cert.ReferenceIdeal.Gen.facts)
    (hPre_scores_finite_KernelIdeal := Cert.Mesh.facts_pre) := fun m g m' g' hpre hblk => by
  have hp : Cert.Mesh.Parts m m' := ⟨fun c => (hblk c).1, fun c => (hblk c).2.1, fun c => (hblk c).2.2.1,
    fun c => (hblk c).2.2.2.1, fun c => (hblk c).2.2.2.2⟩
  have he := Cert.Mesh.outs_eq hp (Cert.Mesh.reals_of_pre hp hpre)
  refine ⟨Cert.ReferenceIdeal.Value.res_out0 m' 0, ?_, ?_⟩
  · exact (θ_run Cert.KernelIdeal.defs _ _).mono (fun _ h c => ⟨(h.1 c).1.trans he, (h.1 c).2⟩)
      (Cert.Mesh.run_main (F := Ideal) m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  Cert.Mesh.facts_pre, Cert.Mesh.facts_preWhole,
  frame_kernel, frame_kernelIdeal, frame_kernelIdeal_finite, frame_reference, frame_reference_finite, trivial, algebraic⟩

end Cert.Proof

end
